-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 2048]⟩ ⟨2, ![8192, 2048]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![2048, 8192]⟩ ⟨2, ![8192, 8192]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 8192]⟩ ⟨2, ![2048, 8192]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x2048 : Shape := ⟨2, ![2048, 2048]⟩
abbrev S2048x8192 : Shape := ⟨2, ![2048, 8192]⟩
abbrev S512x8192 : Shape := ⟨2, ![512, 8192]⟩
abbrev S2x512x4096 : Shape := ⟨3, ![2, 512, 4096]⟩
abbrev S2x2048x512 : Shape := ⟨3, ![2, 2048, 512]⟩
abbrev S2x512x1024 : Shape := ⟨3, ![2, 512, 1024]⟩
abbrev S2x4 : Shape := ⟨2, ![2, 4]⟩
abbrev S4 : Shape := ⟨1, ![4]⟩
abbrev S2 : Shape := ⟨1, ![2]⟩
abbrev S_ : Shape := ⟨0, ![]⟩
abbrev S1 : Shape := ⟨1, ![1]⟩
abbrev S1x2048x512 : Shape := ⟨3, ![1, 2048, 512]⟩
abbrev S2048x512 : Shape := ⟨2, ![2048, 512]⟩
abbrev S512x512 : Shape := ⟨2, ![512, 512]⟩
abbrev S1x512x512 : Shape := ⟨3, ![1, 512, 512]⟩
abbrev S1x1 : Shape := ⟨2, ![1, 1]⟩
abbrev S1x512x1024 : Shape := ⟨3, ![1, 512, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S512x8192, .f32⟩
  | .local _ .vmem, ⟨0, _⟩ => ⟨S2x512x4096, .bf16⟩
  | .local _ .vmem, ⟨1, _⟩ => ⟨S2x512x4096, .bf16⟩
  | .local _ .vmem, ⟨2, _⟩ => ⟨S2048x2048, .bf16⟩
  | .local _ .vmem, ⟨3, _⟩ => ⟨S2x2048x512, .f32⟩
  | .local _ .vmem, ⟨4, _⟩ => ⟨S2x512x1024, .f32⟩
  | .local _ .vmem, ⟨5, _⟩ => ⟨S2x512x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | _ => false

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  (ofTc nBuf bufTy 9 42 bufScoped semScoped dmaSemScoped tileCredit tileCredit_eq_zero tileCredit_pos).withBarriers [(0, 8)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev barrier0 : Sem sig := 8

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_4 : BitVec 32 := 1#32
  let v8 : BitVec 32 := Scalar.muli v4 c1_i32_4
  let v9 : BitVec 32 := Scalar.addi c0_i32 v8
  v9.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_6 : BitVec 32 := 1#32
  let v10 : BitVec 32 := Scalar.muli v6 c1_i32_6
  let v11 : BitVec 32 := Scalar.addi c0_i32_7 v10
  v11.toNat
def k0_off1 (d0 : Dev nD) (c3_i32_68 : BitVec 32) : Fin 2 → Nat :=
  let c0_73 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v76 : BitVec 32 := Scalar.addi v2 c3_i32_68
  let c4_i32_69 : BitVec 32 := 4#32
  let v77 : BitVec 32 := Scalar.remsi v76 c4_i32_69
  let c512_i32_72 : BitVec 32 := 512#32
  let v80 : BitVec 32 := Scalar.muli v77 c512_i32_72
  let v81 : Index := Scalar.indexCast v80
  ![0, v81.toNat]
def k0_dev3 (d0 : Dev nD) : Nat :=
  let c0_i32_118 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_117 : BitVec 32 := 1#32
  let v119 : BitVec 32 := Scalar.muli v6 c1_i32_117
  let v120 : BitVec 32 := Scalar.addi c0_i32_118 v119
  v120.toNat
def k0_dev4 (d0 : Dev nD) : Nat :=
  let c0_i32_168 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_167 : BitVec 32 := 1#32
  let v168 : BitVec 32 := Scalar.muli v4 c1_i32_167
  let v169 : BitVec 32 := Scalar.addi c0_i32_168 v168
  v169.toNat
def k0_dev5 (d0 : Dev nD) : Nat :=
  let c0_i32_220 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_219 : BitVec 32 := 1#32
  let v217 : BitVec 32 := Scalar.muli v6 c1_i32_219
  let v218 : BitVec 32 := Scalar.addi c0_i32_220 v217
  v218.toNat
def k0_dev6 (d0 : Dev nD) : Nat :=
  let c0_i32_270 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_269 : BitVec 32 := 1#32
  let v266 : BitVec 32 := Scalar.muli v4 c1_i32_269
  let v267 : BitVec 32 := Scalar.addi c0_i32_270 v266
  v267.toNat
def k0_dev7 (d0 : Dev nD) : Nat :=
  let c0_i32_318 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_317 : BitVec 32 := 1#32
  let v315 : BitVec 32 := Scalar.muli v6 c1_i32_317
  let v316 : BitVec 32 := Scalar.addi c0_i32_318 v315
  v316.toNat
def k0_dev8 (d0 : Dev nD) : Nat :=
  let c0_i32_368 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_367 : BitVec 32 := 1#32
  let v364 : BitVec 32 := Scalar.muli v4 c1_i32_367
  let v365 : BitVec 32 := Scalar.addi c0_i32_368 v364
  v365.toNat
def k0_dev9 (d0 : Dev nD) : Nat :=
  let c0_i32_416 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_415 : BitVec 32 := 1#32
  let v413 : BitVec 32 := Scalar.muli v6 c1_i32_415
  let v414 : BitVec 32 := Scalar.addi c0_i32_416 v413
  v414.toNat
def k0_dev10 (d0 : Dev nD) : Nat :=
  let c0_i32_466 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_465 : BitVec 32 := 1#32
  let v462 : BitVec 32 := Scalar.muli v4 c1_i32_465
  let v463 : BitVec 32 := Scalar.addi c0_i32_466 v462
  v463.toNat
def k0_dev11 (d0 : Dev nD) : Nat :=
  let c0_i32_542 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_541 : BitVec 32 := 1#32
  let v530 : BitVec 32 := Scalar.muli v4 c1_i32_541
  let v531 : BitVec 32 := Scalar.addi c0_i32_542 v530
  v531.toNat
def k0_dev12 (d0 : Dev nD) : Nat :=
  let c0_i32_562 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_561 : BitVec 32 := 1#32
  let v543 : BitVec 32 := Scalar.muli v6 c1_i32_561
  let v544 : BitVec 32 := Scalar.addi c0_i32_562 v543
  v544.toNat
def k0_off2 (d0 : Dev nD) (c0_i32_474 : BitVec 32) : Fin 2 → Nat :=
  let c0_568 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_473 : BitVec 32 := 2#32
  let v474 : BitVec 32 := Scalar.addi v2 c2_i32_473
  let v475 : BitVec 32 := Scalar.addi v474 c0_i32_474
  let c4_i32_475 : BitVec 32 := 4#32
  let v476 : BitVec 32 := Scalar.remsi v475 c4_i32_475
  let c512_i32_567 : BitVec 32 := 512#32
  let v553 : BitVec 32 := Scalar.muli v476 c512_i32_567
  let v554 : Index := Scalar.indexCast v553
  ![0, v554.toNat]
def k0_dev13 (d0 : Dev nD) : Nat :=
  let c0_i32_633 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_632 : BitVec 32 := 1#32
  let v606 : BitVec 32 := Scalar.muli v6 c1_i32_632
  let v607 : BitVec 32 := Scalar.addi c0_i32_633 v606
  v607.toNat
def k0_dev14 (d0 : Dev nD) : Nat :=
  let c0_i32_653 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_652 : BitVec 32 := 1#32
  let v619 : BitVec 32 := Scalar.muli v4 c1_i32_652
  let v620 : BitVec 32 := Scalar.addi c0_i32_653 v619
  v620.toNat
def k0_dev15 (d0 : Dev nD) : Nat :=
  let c0_i32_724 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_723 : BitVec 32 := 1#32
  let v682 : BitVec 32 := Scalar.muli v4 c1_i32_723
  let v683 : BitVec 32 := Scalar.addi c0_i32_724 v682
  v683.toNat
def k0_dev16 (d0 : Dev nD) : Nat :=
  let c0_i32_744 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_743 : BitVec 32 := 1#32
  let v695 : BitVec 32 := Scalar.muli v6 c1_i32_743
  let v696 : BitVec 32 := Scalar.addi c0_i32_744 v695
  v696.toNat
def k0_dev17 (d0 : Dev nD) : Nat :=
  let c0_i32_815 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_814 : BitVec 32 := 1#32
  let v758 : BitVec 32 := Scalar.muli v6 c1_i32_814
  let v759 : BitVec 32 := Scalar.addi c0_i32_815 v758
  v759.toNat
def k0_dev18 (d0 : Dev nD) : Nat :=
  let c0_i32_835 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_834 : BitVec 32 := 1#32
  let v771 : BitVec 32 := Scalar.muli v4 c1_i32_834
  let v772 : BitVec 32 := Scalar.addi c0_i32_835 v771
  v772.toNat
def k0_dev19 (d0 : Dev nD) : Nat :=
  let c0_i32_906 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_905 : BitVec 32 := 1#32
  let v834 : BitVec 32 := Scalar.muli v4 c1_i32_905
  let v835 : BitVec 32 := Scalar.addi c0_i32_906 v834
  v835.toNat
def k0_dev20 (d0 : Dev nD) : Nat :=
  let c0_i32_926 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_925 : BitVec 32 := 1#32
  let v847 : BitVec 32 := Scalar.muli v6 c1_i32_925
  let v848 : BitVec 32 := Scalar.addi c0_i32_926 v847
  v848.toNat
def k0_dev21 (d0 : Dev nD) : Nat :=
  let c0_i32_997 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_996 : BitVec 32 := 1#32
  let v910 : BitVec 32 := Scalar.muli v6 c1_i32_996
  let v911 : BitVec 32 := Scalar.addi c0_i32_997 v910
  v911.toNat
def k0_dev22 (d0 : Dev nD) : Nat :=
  let c0_i32_1017 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_1016 : BitVec 32 := 1#32
  let v923 : BitVec 32 := Scalar.muli v4 c1_i32_1016
  let v924 : BitVec 32 := Scalar.addi c0_i32_1017 v923
  v924.toNat
def k0_dev23 (d0 : Dev nD) : Nat :=
  let c0_i32_1088 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_1087 : BitVec 32 := 1#32
  let v986 : BitVec 32 := Scalar.muli v4 c1_i32_1087
  let v987 : BitVec 32 := Scalar.addi c0_i32_1088 v986
  v987.toNat
def k0_dev24 (d0 : Dev nD) : Nat :=
  let c0_i32_1108 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_1107 : BitVec 32 := 1#32
  let v999 : BitVec 32 := Scalar.muli v6 c1_i32_1107
  let v1000 : BitVec 32 := Scalar.addi c0_i32_1108 v999
  v1000.toNat
def k0_dev25 (d0 : Dev nD) : Nat :=
  let c0_i32_1179 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_1178 : BitVec 32 := 1#32
  let v1062 : BitVec 32 := Scalar.muli v6 c1_i32_1178
  let v1063 : BitVec 32 := Scalar.addi c0_i32_1179 v1062
  v1063.toNat
def k0_dev26 (d0 : Dev nD) : Nat :=
  let c0_i32_1199 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_1198 : BitVec 32 := 1#32
  let v1075 : BitVec 32 := Scalar.muli v4 c1_i32_1198
  let v1076 : BitVec 32 := Scalar.addi c0_i32_1199 v1075
  v1076.toNat
def k0_dev27 (d0 : Dev nD) : Nat :=
  let c0_i32_1275 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_1274 : BitVec 32 := 1#32
  let v1143 : BitVec 32 := Scalar.muli v4 c1_i32_1274
  let v1144 : BitVec 32 := Scalar.addi c0_i32_1275 v1143
  v1144.toNat
def k0_dev28 (d0 : Dev nD) : Nat :=
  let c0_i32_1295 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_1294 : BitVec 32 := 1#32
  let v1156 : BitVec 32 := Scalar.muli v6 c1_i32_1294
  let v1157 : BitVec 32 := Scalar.addi c0_i32_1295 v1156
  v1157.toNat
def k0_dev29 (d0 : Dev nD) : Nat :=
  let c0_i32_1366 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_1365 : BitVec 32 := 1#32
  let v1219 : BitVec 32 := Scalar.muli v6 c1_i32_1365
  let v1220 : BitVec 32 := Scalar.addi c0_i32_1366 v1219
  v1220.toNat
def k0_dev30 (d0 : Dev nD) : Nat :=
  let c0_i32_1386 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_1385 : BitVec 32 := 1#32
  let v1232 : BitVec 32 := Scalar.muli v4 c1_i32_1385
  let v1233 : BitVec 32 := Scalar.addi c0_i32_1386 v1232
  v1233.toNat
def k0_dev31 (d0 : Dev nD) : Nat :=
  let c0_i32_1457 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_1456 : BitVec 32 := 1#32
  let v1295 : BitVec 32 := Scalar.muli v4 c1_i32_1456
  let v1296 : BitVec 32 := Scalar.addi c0_i32_1457 v1295
  v1296.toNat
def k0_dev32 (d0 : Dev nD) : Nat :=
  let c0_i32_1477 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_1476 : BitVec 32 := 1#32
  let v1308 : BitVec 32 := Scalar.muli v6 c1_i32_1476
  let v1309 : BitVec 32 := Scalar.addi c0_i32_1477 v1308
  v1309.toNat
def k0_dev33 (d0 : Dev nD) : Nat :=
  let c0_i32_1548 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_1547 : BitVec 32 := 1#32
  let v1371 : BitVec 32 := Scalar.muli v6 c1_i32_1547
  let v1372 : BitVec 32 := Scalar.addi c0_i32_1548 v1371
  v1372.toNat
def k0_dev34 (d0 : Dev nD) : Nat :=
  let c0_i32_1568 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_1567 : BitVec 32 := 1#32
  let v1384 : BitVec 32 := Scalar.muli v4 c1_i32_1567
  let v1385 : BitVec 32 := Scalar.addi c0_i32_1568 v1384
  v1385.toNat
def k0_dev35 (d0 : Dev nD) : Nat :=
  let c0_i32_1639 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_1638 : BitVec 32 := 1#32
  let v1447 : BitVec 32 := Scalar.muli v4 c1_i32_1638
  let v1448 : BitVec 32 := Scalar.addi c0_i32_1639 v1447
  v1448.toNat
def k0_dev36 (d0 : Dev nD) : Nat :=
  let c0_i32_1659 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_1658 : BitVec 32 := 1#32
  let v1460 : BitVec 32 := Scalar.muli v6 c1_i32_1658
  let v1461 : BitVec 32 := Scalar.addi c0_i32_1659 v1460
  v1461.toNat
def k0_dev37 (d0 : Dev nD) : Nat :=
  let c0_i32_1730 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_1729 : BitVec 32 := 1#32
  let v1523 : BitVec 32 := Scalar.muli v6 c1_i32_1729
  let v1524 : BitVec 32 := Scalar.addi c0_i32_1730 v1523
  v1524.toNat
def k0_dev38 (d0 : Dev nD) : Nat :=
  let c0_i32_1750 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_1749 : BitVec 32 := 1#32
  let v1536 : BitVec 32 := Scalar.muli v4 c1_i32_1749
  let v1537 : BitVec 32 := Scalar.addi c0_i32_1750 v1536
  v1537.toNat
def k0_dev39 (d0 : Dev nD) : Nat :=
  let c0_i32_1821 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_1820 : BitVec 32 := 1#32
  let v1599 : BitVec 32 := Scalar.muli v4 c1_i32_1820
  let v1600 : BitVec 32 := Scalar.addi c0_i32_1821 v1599
  v1600.toNat
def k0_dev40 (d0 : Dev nD) : Nat :=
  let c0_i32_1841 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_1840 : BitVec 32 := 1#32
  let v1612 : BitVec 32 := Scalar.muli v6 c1_i32_1840
  let v1613 : BitVec 32 := Scalar.addi c0_i32_1841 v1612
  v1613.toNat
def k0_dev41 (d0 : Dev nD) : Nat :=
  let c0_i32_1912 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_1911 : BitVec 32 := 1#32
  let v1675 : BitVec 32 := Scalar.muli v6 c1_i32_1911
  let v1676 : BitVec 32 := Scalar.addi c0_i32_1912 v1675
  v1676.toNat
def k0_dev42 (d0 : Dev nD) : Nat :=
  let c0_i32_1932 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_1931 : BitVec 32 := 1#32
  let v1688 : BitVec 32 := Scalar.muli v4 c1_i32_1931
  let v1689 : BitVec 32 := Scalar.addi c0_i32_1932 v1688
  v1689.toNat
-- ==== ReferenceIdeal.lean ====
abbrev S8192x2048 : Shape := ⟨2, ![8192, 2048]⟩
abbrev S8192x8192 : Shape := ⟨2, ![8192, 8192]⟩
abbrev S2048x8192 : Shape := ⟨2, ![2048, 8192]⟩

abbrev nBuf : Space → Nat
  | .hbm => 4
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x8192, .f32⟩
  | .hbm, ⟨2, _⟩ => ⟨S2048x8192, .f32⟩
  | .hbm, ⟨3, _⟩ => ⟨S2048x8192, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Blocks.lean ====
module

public import proofs.«01_k».proof.Proof.Gen.KernelIdeal.Skeleton
public import proofs.«01_k».proof.Proof.Gen.KernelIdeal.Points

@[expose] public section

noncomputable section

namespace Cert.KernelIdeal.Ring

open Idealize.ShloMosaic Idealize.ShloMosaic.TcCoe Idealize.SL Idealize.SL.Sem
open Cert.KernelIdeal.Gen

variable {F : FTy → Type} [FloatOps F]

/-- A program of the kernel's body. -/
abbrev Body (F : FTy → Type) (α : Type) : Type 1 := Prog (TpuEff nD τ sig (Elt F) Λ₀ .tc) α

/-! ## Buffers -/

abbrev xHbm : Memref sig .tc .hbm S2048x2048 .f32 := Memref.whole main_arg0
abbrev dyHbm : Memref sig .tc .hbm S2048x8192 .f32 := Memref.whole main_arg1
abbrev outHbm : Memref sig .tc .hbm S512x8192 .f32 := Memref.whole main_v1
abbrev xbf : Memref sig .tc .vmem S2048x2048 .bf16 := Memref.whole cc0_scratch2
abbrev dyv : Memref sig .tc .vmem S2x2048x512 .f32 := Memref.whole cc0_scratch3
abbrev acc : Memref sig .tc .vmem S2x512x1024 .f32 := Memref.whole cc0_scratch4
abbrev stage : Memref sig .tc .vmem S2x512x1024 .f32 := Memref.whole cc0_scratch5

/-- The communication buffer of a direction (`false` clockwise, `true` counter-clockwise). -/
def comm : Bool → Memref sig .tc .vmem S2x512x4096 .bf16
  | false => Memref.whole cc0_scratch0
  | true => Memref.whole cc0_scratch1

theorem comm_whole (d : Bool) : (comm d).IsWhole := by
  cases d <;> exact Memref.isWhole_whole _

def sendSems : Bool → DmaSems sig S2x4
  | false => cc0_scratch6
  | true => cc0_scratch8

def recvSems : Bool → DmaSems sig S2x4
  | false => cc0_scratch7
  | true => cc0_scratch9

def creditSems : Bool → Sems sig S4
  | false => cc0_scratch10
  | true => cc0_scratch11

abbrev localSems : DmaSems sig S2 := cc0_scratch12
abbrev outSems : DmaSems sig S2x4 := cc0_scratch13

/-! ## Pieces -/

/-- The number of a direction. -/
def dn : Bool → ℕ
  | false => 0
  | true => 1

theorem inbS2 (b : Fin 2) : ∀ a, (![b.val] : Fin 1 → ℕ) a + S1.size a ≤ S2.size a := by
  revert b; decide

theorem inbS4 (s : Fin 4) : ∀ a, (![s.val] : Fin 1 → ℕ) a + S1.size a ≤ S4.size a := by
  revert s; decide

theorem inbS2x4 (b : Fin 2) (s : Fin 4) : ∀ a, (![b.val, s.val] : Fin 2 → ℕ) a + S1x1.size a ≤ S2x4.size a := by
  revert b s; decide

def localSem (b : Fin 2) : DmaSem sig :=
  ((localSems.slice (Rect.unit (s := S2) ![b.val] S1.size (inbS2 b))).squeeze S_ squeezes_S1_S_).sem

def sendSem (d : Bool) (b : Fin 2) (s : Fin 4) : DmaSem sig :=
  (((sendSems d).slice (Rect.unit (s := S2x4) ![b.val, s.val] S1x1.size (inbS2x4 b s))).squeeze S_ squeezes_S1x1_S_).sem

def recvSem (d : Bool) (b : Fin 2) (s : Fin 4) : DmaSem sig :=
  (((recvSems d).slice (Rect.unit (s := S2x4) ![b.val, s.val] S1x1.size (inbS2x4 b s))).squeeze S_ squeezes_S1x1_S_).sem

def outSem (b : Fin 2) (s : Fin 4) : DmaSem sig :=
  ((outSems.slice (Rect.unit (s := S2x4) ![b.val, s.val] S1x1.size (inbS2x4 b s))).squeeze S_ squeezes_S1x1_S_).sem

def creditSem (d : Bool) (s : Fin 4) : Sem sig :=
  (((creditSems d).slice (Rect.unit (s := S4) ![s.val] S1.size (inbS4 s))).squeeze S_ squeezes_S1_S_).sem

def barSem : Sem sig := (SemArray.scalar (sig.barrier 0 rfl) : Sems sig S_).sem

/-- The two staging halves of a `2048×512` pair buffer. -/
theorem inbDyv (b : Fin 2) : ∀ a, (![b.val, 0, 0] : Fin 3 → ℕ) a + S1x2048x512.size a ≤ S2x2048x512.size a := by
  revert b; decide

theorem inbAcc (b : Fin 2) : ∀ a, (![b.val, 0, 0] : Fin 3 → ℕ) a + S1x512x1024.size a ≤ S2x512x1024.size a := by
  revert b; decide

theorem inbAccHalf (b h : Fin 2) :
    ∀ a, (![b.val, 0, 512 * h.val] : Fin 3 → ℕ) a + S1x512x512.size a ≤ S2x512x1024.size a := by
  revert b h; decide

theorem inbSub (b : Fin 2) (s : Fin 4) :
    ∀ a, (![b.val, 0, 1024 * s.val] : Fin 3 → ℕ) a + S1x512x1024.size a ≤ S2x512x4096.size a := by
  revert b s; decide

theorem inbSubHalf (s : Fin 4) (h : Fin 2) :
    ∀ a, (![0, 0, 1024 * s.val + 512 * h.val] : Fin 3 → ℕ) a + S1x512x512.size a ≤ S2x512x4096.size a := by
  revert h s; decide

theorem inbX (j : Fin 4) :
    ∀ a, (![0, 512 * j.val] : Fin 2 → ℕ) a + S2048x512.size a ≤ S2048x2048.size a := by
  revert j; decide

/-- The first column of a lane in the output (and in `dy`). -/
def lcol (d : Bool) (s : Fin 4) : ℕ := 4096 * dn d + 1024 * s.val

theorem inbDy (d : Bool) (s : Fin 4) (h : Fin 2) :
    ∀ a, (![0, lcol d s + 512 * h.val] : Fin 2 → ℕ) a + S2048x512.size a ≤ S2048x8192.size a := by
  revert d h s; decide

theorem inbOut (d : Bool) (s : Fin 4) :
    ∀ a, (![0, lcol d s] : Fin 2 → ℕ) a + S512x1024.size a ≤ S512x8192.size a := by
  revert d s; decide

def rDyv (b : Fin 2) : Rect S2x2048x512 := Rect.unit (s := S2x2048x512) ![b.val, 0, 0] S1x2048x512.size (inbDyv b)
def rX (j : Fin 4) : Rect S2048x2048 := Rect.unit (s := S2048x2048) ![0, 512 * j.val] S2048x512.size (inbX j)
def rDy (d : Bool) (s : Fin 4) (h : Fin 2) : Rect S2048x8192 :=
  Rect.unit (s := S2048x8192) ![0, lcol d s + 512 * h.val] S2048x512.size (inbDy d s h)
def rAcc (b : Fin 2) : Rect S2x512x1024 := Rect.unit (s := S2x512x1024) ![b.val, 0, 0] S1x512x1024.size (inbAcc b)
def rAccHalf (b h : Fin 2) : Rect S2x512x1024 :=
  Rect.unit (s := S2x512x1024) ![b.val, 0, 512 * h.val] S1x512x512.size (inbAccHalf b h)
def rSub (b : Fin 2) (s : Fin 4) : Rect S2x512x4096 :=
  Rect.unit (s := S2x512x4096) ![b.val, 0, 1024 * s.val] S1x512x1024.size (inbSub b s)
def rSubHalf (s : Fin 4) (h : Fin 2) : Rect S2x512x4096 :=
  Rect.unit (s := S2x512x4096) ![0, 0, 1024 * s.val + 512 * h.val] S1x512x512.size (inbSubHalf s h)
def rOut (d : Bool) (s : Fin 4) : Rect S512x8192 :=
  Rect.unit (s := S512x8192) ![0, lcol d s] S512x1024.size (inbOut d s)

def dyvM (b : Fin 2) : Memref sig .tc .vmem S2048x512 .f32 :=
  (dyv.slice (rDyv b) (fun _ => rfl)).squeeze S2048x512 squeezes_S1x2048x512_S2048x512
def xM (j : Fin 4) : Memref sig .tc .hbm S2048x512 .f32 := xHbm.slice (rX j) (fun _ => rfl)
def dyM (d : Bool) (s : Fin 4) (h : Fin 2) : Memref sig .tc .hbm S2048x512 .f32 :=
  dyHbm.slice (rDy d s h) (fun _ => rfl)
def subM (d : Bool) (b : Fin 2) (s : Fin 4) : Memref sig .tc .vmem S512x1024 .bf16 :=
  ((comm d).slice (rSub b s) (fun _ => rfl)).squeeze S512x1024 squeezes_S1x512x1024_S512x1024
def stageM (b : Fin 2) : Memref sig .tc .vmem S512x1024 .f32 :=
  (stage.slice (rAcc b) (fun _ => rfl)).squeeze S512x1024 squeezes_S1x512x1024_S512x1024
def outM (d : Bool) (s : Fin 4) : Memref sig .tc .hbm S512x1024 .f32 := outHbm.slice (rOut d s) (fun _ => rfl)

theorem rSub_words (b : Fin 2) (s : Fin 4) : (rSub b s).WholeWords (EltTy.packing .bf16) :=
  match b, s with
  | 0, 0 => wordsbf16_S2x512x4096_S1x512x1024_0_0_0
  | 0, 1 => wordsbf16_S2x512x4096_S1x512x1024_0_0_1024
  | 0, 2 => wordsbf16_S2x512x4096_S1x512x1024_0_0_2048
  | 0, 3 => wordsbf16_S2x512x4096_S1x512x1024_0_0_3072
  | 1, 0 => wordsbf16_S2x512x4096_S1x512x1024_1_0_0
  | 1, 1 => wordsbf16_S2x512x4096_S1x512x1024_1_0_1024
  | 1, 2 => wordsbf16_S2x512x4096_S1x512x1024_1_0_2048
  | 1, 3 => wordsbf16_S2x512x4096_S1x512x1024_1_0_3072

theorem rSub_packed (b : Fin 2) (s : Fin 4) : (rSub b s).PackedRows (EltTy.packing .bf16) :=
  match b, s with
  | 0, 0 => packedbf16_S2x512x4096_S1x512x1024_0_0_0
  | 0, 1 => packedbf16_S2x512x4096_S1x512x1024_0_0_1024
  | 0, 2 => packedbf16_S2x512x4096_S1x512x1024_0_0_2048
  | 0, 3 => packedbf16_S2x512x4096_S1x512x1024_0_0_3072
  | 1, 0 => packedbf16_S2x512x4096_S1x512x1024_1_0_0
  | 1, 1 => packedbf16_S2x512x4096_S1x512x1024_1_0_1024
  | 1, 2 => packedbf16_S2x512x4096_S1x512x1024_1_0_2048
  | 1, 3 => packedbf16_S2x512x4096_S1x512x1024_1_0_3072

theorem rSubHalf_packed (s : Fin 4) (h : Fin 2) : (rSubHalf s h).PackedRows (EltTy.packing .bf16) :=
  match s, h with
  | 0, 0 => packedbf16_S2x512x4096_S1x512x512_0_0_0
  | 0, 1 => packedbf16_S2x512x4096_S1x512x512_0_0_512
  | 1, 0 => packedbf16_S2x512x4096_S1x512x512_0_0_1024
  | 1, 1 => packedbf16_S2x512x4096_S1x512x512_0_0_1536
  | 2, 0 => packedbf16_S2x512x4096_S1x512x512_0_0_2048
  | 2, 1 => packedbf16_S2x512x4096_S1x512x512_0_0_2560
  | 3, 0 => packedbf16_S2x512x4096_S1x512x512_0_0_3072
  | 3, 1 => packedbf16_S2x512x4096_S1x512x512_0_0_3584

theorem subM_words (d : Bool) (b : Fin 2) (s : Fin 4) : (subM d b s).view.WordExact :=
  ((comm_whole d).wordExact_slice rfl _ (rSub_words b s)).reshape _ _

theorem rX_packed (j : Fin 4) : (rX j).PackedRows (EltTy.packing .bf16) :=
  match j with
  | 0 => packedbf16_S2048x2048_S2048x512_0_0
  | 1 => packedbf16_S2048x2048_S2048x512_0_512
  | 2 => packedbf16_S2048x2048_S2048x512_0_1024
  | 3 => packedbf16_S2048x2048_S2048x512_0_1536

/-! ## Values -/

/-- The chunk of `x` as it is kept: rounded to bf16. -/
def castX (v : Vec F S1x2048x512 .f32) : FVec F S2048x512 .bf16 := k0_pay1 v

/-- The product of a chunk of `x` by columns of `dy`, rounded to bf16. -/
def prodBf (w : Vec F S2048x512 .bf16) (v : Vec F S1x2048x512 .f32) : FVec F S1x512x512 .bf16 := k0_pay5 w v

/-- The same product left in f32. -/
def prodF (w : Vec F S2048x512 .bf16) (v : Vec F S1x2048x512 .f32) : FVec F S1x512x512 .f32 := k0_pay28 w v

/-- A partial sum with the device's own product added, in bf16. -/
def addBf (v : Vec F S1x512x1024 .bf16) (w : Vec F S1x512x1024 .f32) : FVec F S1x512x1024 .bf16 :=
  k0_pay27 (k0_pay26 v w)

/-- The last sum, in f32. -/
def addF (v : Vec F S1x512x1024 .bf16) (w : Vec F S1x512x1024 .f32) : FVec F S1x512x1024 .f32 := k0_pay88 v w

/-! ## Blocks of the program -/

/-- Start a copy of 2048×512 elements into half `b` of the staging pair. -/
def copyIn (src : Memref sig .tc .hbm S2048x512 .f32) (b : Fin 2) : Body F PUnit :=
  Prog.lift (.enqueueDma src (.here (dyvM b)) (.dma (localSem b)) (View.wordExact_bits rfl)
    ((View.wordExact_bits rfl).reshape _ _) ⟨Or.inl rfl, trivial⟩)

/-- Wait for it. -/
def copyWait (src : Memref sig .tc .hbm S2048x512 .f32) (b : Fin 2) : Body F PUnit :=
  Prog.lift (.waitDma2 (localSem b) src (dyvM b) (View.wordExact_bits rfl) ((View.wordExact_bits rfl).reshape _ _))

/-- Read half `b` of the staging pair. -/
def loadDyv (b : Fin 2) : Body F (Vec F S1x2048x512 .f32) :=
  Prog.lift (.load dyv (rDyv b).toLoadRect (View.loadsAt_vmem h_S1x2048x512))

/-- Wait for chunk `j` of `x` in half `b` and keep it in bf16. -/
def xTake (j : Fin 4) (b : Fin 2) : Body F PUnit := do
  copyWait (xM j) b
  let v ← loadDyv b
  let _ : Vec F S2048x512 .bf16 ← Prog.lift (.load xbf (rX j).toLoadRect (View.loadsAt_vmem h_S2048x512))
  Prog.lift (.store xbf (rX j) (castX v) Finset.univ
    (View.stores_vmem h_S2048x512 ((Memref.isWhole_whole _).storeExact_slice rfl _ (rX_packed j)) (fun _ => rfl)) (.inl rfl))

/-- Read the four chunks of `x`. -/
def xLoad : Body F PUnit := do
  copyIn (xM 0) 0
  copyIn (xM 1) 1
  xTake 0 0
  copyIn (xM 2) 0
  xTake 1 1
  copyIn (xM 3) 1
  xTake 2 0
  xTake 3 1

/-- Signal both neighbours and wait for both. -/
def barrier (l r : Dev nD) : Body F PUnit := do
  semSignalWord l barSem 1#32
  semSignalWord r barSem 1#32
  semWaitWord barSem 2#32

/-- Read the chunk of `x` at an offset. -/
def loadX (off : Fin 2 → ℕ) (hoff : ∀ a, off a + S2048x512.size a ≤ S2048x2048.size a) : Body F (Vec F S2048x512 .bf16) :=
  Prog.lift (.load xbf (Rect.unit (s := S2048x2048) off S2048x512.size hoff).toLoadRect (View.loadsAt_vmem h_S2048x512))

/-- Fill half `h` of a lane's outgoing slot by a product. -/
def initHalf (d : Bool) (s : Fin 4) (h : Fin 2) (w : Vec F S2048x512 .bf16) : Body F PUnit := do
  copyWait (dyM d s h) h
  let v ← loadDyv h
  let _ : Vec F S1x512x512 .bf16 ← Prog.lift (.load (comm d) (rSubHalf s h).toLoadRect (View.loadsAt_vmem h_S1x512x512))
  Prog.lift (.store (comm d) (rSubHalf s h) (prodBf w v) Finset.univ
    (View.stores_vmem h_S1x512x512 ((comm_whole d).storeExact_slice rfl _ (rSubHalf_packed s h)) (fun _ => rfl)) (.inl rfl))

/-- Send a lane's slot `a` to slot `b` on `dv`. -/
def sendSub (d : Bool) (s : Fin 4) (a b : Fin 2) (dv : Dev nD) : Body F PUnit :=
  Prog.lift (.enqueueDma (subM d a s) (.remote (Dev.tc dv) (subM d b s) (.dma (sendSem d a s))) (.dma (recvSem d b s))
    (subM_words d a s) (subM_words d b s) ⟨⟨rfl, Or.inl rfl⟩, trivial⟩)

/-- The first products of a lane, sent off. -/
def initLane (d : Bool) (s : Fin 4) (off : Fin 2 → ℕ) (hoff : ∀ a, off a + S2048x512.size a ≤ S2048x2048.size a)
    (dv : Dev nD) : Body F PUnit := do
  let w ← loadX off hoff
  copyIn (dyM d s 0) 0
  copyIn (dyM d s 1) 1
  initHalf d s 0 w
  initHalf d s 1 w
  sendSub d s 0 1 dv

/-- The accumulator of a direction. -/
def dix : Bool → Fin 2
  | false => 0
  | true => 1

/-- Fill half `h` of a direction's accumulator by a product. -/
def accHalf (d : Bool) (s : Fin 4) (h : Fin 2) (w : Vec F S2048x512 .bf16) : Body F PUnit := do
  copyWait (dyM d s h) h
  let v ← loadDyv h
  let _ : Vec F S1x512x512 .f32 ← Prog.lift (.load acc (rAccHalf (dix d) h).toLoadRect (View.loadsAt_vmem h_S1x512x512))
  Prog.lift (.store acc (rAccHalf (dix d) h) (prodF w v) Finset.univ (View.stores_vmem_bits_univ h_S1x512x512 rfl) (.inl rfl))

/-- The product of a chunk of `x` by a lane's columns of `dy`, in the accumulator. -/
def accLane (d : Bool) (s : Fin 4) (off : Fin 2 → ℕ) (hoff : ∀ a, off a + S2048x512.size a ≤ S2048x2048.size a) :
    Body F PUnit := do
  let w ← loadX off hoff
  copyIn (dyM d s 0) 0
  copyIn (dyM d s 1) 1
  accHalf d s 0 w
  accHalf d s 1 w

def waitRecv (d : Bool) (s : Fin 4) (a b : Fin 2) : Body F PUnit :=
  Prog.lift (.waitDma2 (recvSem d b s) (subM d a s) (subM d b s) (subM_words d a s) (subM_words d b s))

def waitSend (d : Bool) (s : Fin 4) (a b : Fin 2) : Body F PUnit :=
  Prog.lift (.waitDma2 (sendSem d a s) (subM d b s) (subM d a s) (subM_words d b s) (subM_words d a s))

def loadSub (d : Bool) (s : Fin 4) (b : Fin 2) : Body F (Vec F S1x512x1024 .bf16) :=
  Prog.lift (.load (comm d) (rSub b s).toLoadRect (View.loadsAt_vmem h_S1x512x1024))

def loadAcc (d : Bool) : Body F (Vec F S1x512x1024 .f32) :=
  Prog.lift (.load acc (rAcc (dix d)).toLoadRect (View.loadsAt_vmem h_S1x512x1024))

/-- A hop of a lane from slot `a` to slot `b`: wait for the arrival in `b`, hand slot `a` upstream, add, and send on. -/
def hopLane (d : Bool) (s : Fin 4) (a b : Fin 2) (off : Fin 2 → ℕ)
    (hoff : ∀ a, off a + S2048x512.size a ≤ S2048x2048.size a) (up dv : Dev nD) : Body F PUnit := do
  accLane d s off hoff
  waitRecv d s a b
  waitSend d s a b
  semSignalWord up (creditSem d s) 1#32
  let v ← loadSub d s b
  let w ← loadAcc d
  let _ ← loadSub d s b
  Prog.lift (.store (comm d) (rSub b s) (addBf v w) Finset.univ
    (View.stores_vmem h_S1x512x1024 ((comm_whole d).storeExact_slice rfl _ (rSub_packed b s)) (fun _ => rfl)) (.inl rfl))
  semWaitWord (creditSem d s) 1#32
  sendSub d s b a dv

def outStart (d : Bool) (s : Fin 4) : Body F PUnit :=
  Prog.lift (.enqueueDma (stageM (dix d)) (.here (outM d s)) (.dma (outSem (dix d) s))
    ((View.wordExact_bits rfl).reshape _ _) (View.wordExact_bits rfl) ⟨Or.inl rfl, trivial⟩)

def outWait (d : Bool) (s : Fin 4) : Body F PUnit :=
  Prog.lift (.waitDma2 (outSem (dix d) s) (stageM (dix d)) (outM d s)
    ((View.wordExact_bits rfl).reshape _ _) (View.wordExact_bits rfl))

/-- Wait for the previous lane's copy out, if there is one. -/
def outPrev (d : Bool) : Fin 4 → Body F PUnit
  | 0 => pure ⟨⟩
  | 1 => outWait d 0
  | 2 => outWait d 1
  | 3 => outWait d 2

/-- The last hop of a lane: add and copy out. -/
def lastLane (d : Bool) (s : Fin 4) (off : Fin 2 → ℕ)
    (hoff : ∀ a, off a + S2048x512.size a ≤ S2048x2048.size a) : Body F PUnit := do
  accLane d s off hoff
  waitRecv d s 0 1
  outPrev d s
  let v ← loadSub d s 1
  let w ← loadAcc d
  let _ : Vec F S1x512x1024 .f32 ← Prog.lift (.load stage (rAcc (dix d)).toLoadRect (View.loadsAt_vmem h_S1x512x1024))
  Prog.lift (.store stage (rAcc (dix d)) (addF v w) Finset.univ (View.stores_vmem_bits_univ h_S1x512x1024 rfl) (.inl rfl))
  waitSend d s 0 1
  outStart d s

/-! ## The tables of the devices and chunks -/

/-- A lane: a direction and a quarter of its columns. -/
abbrev Lane : Type := Bool × Fin 4

/-- The lanes in the order of the program. -/
def lanes : List Lane :=
  [(false, 0), (true, 0), (false, 1), (true, 1), (false, 2), (true, 2), (false, 3), (true, 3)]

def seqL : List Lane → (Lane → Body F PUnit) → Body F PUnit
  | [], _ => pure ⟨⟩
  | a :: l, f => do
    f a
    seqL l f

def dv0 (c : Dev nD) : Lane → Dev nD
  | (false, 0) => ⟨k0_dev3 c, k0_dev3_lt c⟩
  | (true, 0) => ⟨k0_dev4 c, k0_dev4_lt c⟩
  | (false, 1) => ⟨k0_dev5 c, k0_dev5_lt c⟩
  | (true, 1) => ⟨k0_dev6 c, k0_dev6_lt c⟩
  | (false, 2) => ⟨k0_dev7 c, k0_dev7_lt c⟩
  | (true, 2) => ⟨k0_dev8 c, k0_dev8_lt c⟩
  | (false, 3) => ⟨k0_dev9 c, k0_dev9_lt c⟩
  | (true, 3) => ⟨k0_dev10 c, k0_dev10_lt c⟩

def up1 (c : Dev nD) : Lane → Dev nD
  | (false, 0) => ⟨k0_dev11 c, k0_dev11_lt c⟩
  | (true, 0) => ⟨k0_dev13 c, k0_dev13_lt c⟩
  | (false, 1) => ⟨k0_dev15 c, k0_dev15_lt c⟩
  | (true, 1) => ⟨k0_dev17 c, k0_dev17_lt c⟩
  | (false, 2) => ⟨k0_dev19 c, k0_dev19_lt c⟩
  | (true, 2) => ⟨k0_dev21 c, k0_dev21_lt c⟩
  | (false, 3) => ⟨k0_dev23 c, k0_dev23_lt c⟩
  | (true, 3) => ⟨k0_dev25 c, k0_dev25_lt c⟩

def dv1 (c : Dev nD) : Lane → Dev nD
  | (false, 0) => ⟨k0_dev12 c, k0_dev12_lt c⟩
  | (true, 0) => ⟨k0_dev14 c, k0_dev14_lt c⟩
  | (false, 1) => ⟨k0_dev16 c, k0_dev16_lt c⟩
  | (true, 1) => ⟨k0_dev18 c, k0_dev18_lt c⟩
  | (false, 2) => ⟨k0_dev20 c, k0_dev20_lt c⟩
  | (true, 2) => ⟨k0_dev22 c, k0_dev22_lt c⟩
  | (false, 3) => ⟨k0_dev24 c, k0_dev24_lt c⟩
  | (true, 3) => ⟨k0_dev26 c, k0_dev26_lt c⟩

def up2 (c : Dev nD) : Lane → Dev nD
  | (false, 0) => ⟨k0_dev27 c, k0_dev27_lt c⟩
  | (true, 0) => ⟨k0_dev29 c, k0_dev29_lt c⟩
  | (false, 1) => ⟨k0_dev31 c, k0_dev31_lt c⟩
  | (true, 1) => ⟨k0_dev33 c, k0_dev33_lt c⟩
  | (false, 2) => ⟨k0_dev35 c, k0_dev35_lt c⟩
  | (true, 2) => ⟨k0_dev37 c, k0_dev37_lt c⟩
  | (false, 3) => ⟨k0_dev39 c, k0_dev39_lt c⟩
  | (true, 3) => ⟨k0_dev41 c, k0_dev41_lt c⟩

def dv2 (c : Dev nD) : Lane → Dev nD
  | (false, 0) => ⟨k0_dev28 c, k0_dev28_lt c⟩
  | (true, 0) => ⟨k0_dev30 c, k0_dev30_lt c⟩
  | (false, 1) => ⟨k0_dev32 c, k0_dev32_lt c⟩
  | (true, 1) => ⟨k0_dev34 c, k0_dev34_lt c⟩
  | (false, 2) => ⟨k0_dev36 c, k0_dev36_lt c⟩
  | (true, 2) => ⟨k0_dev38 c, k0_dev38_lt c⟩
  | (false, 3) => ⟨k0_dev40 c, k0_dev40_lt c⟩
  | (true, 3) => ⟨k0_dev42 c, k0_dev42_lt c⟩

/-- The chunk a device multiplies in turn `k` (before the first hop, then at each), by direction. -/
def off (c : Dev nD) (k : Fin 4) : Bool → Fin 2 → ℕ
  | false => match k with
    | 0 => k0_off1 c 3#32
    | 1 => k0_off1 c 2#32
    | 2 => k0_off1 c 1#32
    | 3 => k0_off1 c 0#32
  | true => match k with
    | 0 => k0_off1 c 1#32
    | 1 => k0_off2 c 0#32
    | 2 => k0_off2 c 1#32
    | 3 => k0_off2 c 2#32

theorem off_inb (c : Dev nD) (k : Fin 4) (d : Bool) : ∀ a, off c k d a + S2048x512.size a ≤ S2048x2048.size a :=
  match d, k with
  | false, 0 => k0_off1_inb c 3
  | false, 1 => k0_off1_inb c 2
  | false, 2 => k0_off1_inb c 1
  | false, 3 => k0_off1_inb c 0
  | true, 0 => k0_off1_inb c 1
  | true, 1 => k0_off2_inb c 0
  | true, 2 => k0_off2_inb c 1
  | true, 3 => k0_off2_inb c 2

/-- The kernel's body on device `c`. -/
def bodyOn (c : Dev nD) : Body F PUnit := do
  barrier ⟨k0_dev1 c, k0_dev1_lt c⟩ ⟨k0_dev2 c, k0_dev2_lt c⟩
  xLoad
  seqL lanes fun l => initLane l.1 l.2 (off c 0 l.1) (off_inb c 0 l.1) (dv0 c l)
  seqL lanes fun l => hopLane l.1 l.2 0 1 (off c 1 l.1) (off_inb c 1 l.1) (up1 c l) (dv1 c l)
  seqL lanes fun l => hopLane l.1 l.2 1 0 (off c 2 l.1) (off_inb c 2 l.1) (up2 c l) (dv2 c l)
  seqL lanes fun l => lastLane l.1 l.2 (off c 3 l.1) (off_inb c 3 l.1)
  outWait false 3
  outWait true 3

/-- The kernel's body: read which device this is and do that device's part. -/
def bodyAll : Body F PUnit := do
  let c ← Prog.lift .deviceId
  bodyOn c

end Cert.KernelIdeal.Ring

end
-- ==== Proof.Protocol.lean ====
module

public import proofs.«01_k».proof.Proof.Blocks
public import proofs.«01_k».proof.Proof.Gen.KernelIdeal.Launch
public import Idealize.ShloMosaic.Lib.Pipeline.Launch
public import Idealize.ShloMosaic.Lib.Pipeline.Kit
public import Idealize.ShloMosaic.Lib.Pipeline.TalkSites
public import Idealize.ShloMosaic.Lib.Transfers
public import Idealize.ShloMosaic.Lib.Tactic

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

/-! ## The resource algebra -/

/-- The pipeline's rounds, the ring's rounds, and the counters of the local transfers. -/
abbrev UB : Type := URounds (GSem nD τ sig) Bool
abbrev UU : Type := UR sig nD τ × (UB × Counters)

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := (Emb.inl : Emb UB (UB × Counters)).trans embR
abbrev EC : UEmb Counters (MT nD τ sig ℕ (Elt F) ℕ UU ℕ) := countersEmb

abbrev 𝒱₀ : Variants := Variants.none

/-- The weakest precondition of a piece of the body on device `c`. -/
abbrev WP {α : Type} (c : Dev nD) (p : Body F α) (Q : α → sProp 𝕄) : sProp 𝕄 :=
  wp frame (wpE (defs₀ (F := F)) 𝒱₀ (c : Thread nD τ) none) Set.univ p Q

variable (m : (ℓ : Loc nD τ sig) → Buf (Elt F) ℓ)

/-! ## The ring -/

set_option backward.proofsInPublic true in
/-- The device a direction sends to. -/
def nxt : Bool → Dev nD → Dev nD
  | false, c => ⟨(c.val + 1) % 4, Nat.mod_lt _ (by decide)⟩
  | true, c => ⟨(c.val + 3) % 4, Nat.mod_lt _ (by decide)⟩

/-- The device a direction receives from. -/
def prv (d : Bool) (c : Dev nD) : Dev nD := nxt (!d) c

theorem prv_nxt (d : Bool) (c : Dev nD) : prv d (nxt d c) = c := by revert d c; decide
theorem nxt_prv (d : Bool) (c : Dev nD) : nxt d (prv d c) = c := by revert d c; decide

/-- A direction as a rotation of the devices. -/
def ring (d : Bool) : Dev nD ≃ Dev nD := ⟨nxt d, prv d, prv_nxt d, nxt_prv d⟩

theorem left_eq (c : Dev nD) : (⟨k0_dev1 c, k0_dev1_lt c⟩ : Dev nD) = prv false c := by revert c; decide
theorem right_eq (c : Dev nD) : (⟨k0_dev2 c, k0_dev2_lt c⟩ : Dev nD) = prv true c := by revert c; decide

theorem dv0_eq (c : Dev nD) (l : Lane) : dv0 c l = nxt l.1 c := by revert c l; decide
theorem dv1_eq (c : Dev nD) (l : Lane) : dv1 c l = nxt l.1 c := by revert c l; decide
theorem dv2_eq (c : Dev nD) (l : Lane) : dv2 c l = nxt l.1 c := by revert c l; decide
theorem up1_eq (c : Dev nD) (l : Lane) : up1 c l = prv l.1 c := by revert c l; decide
theorem up2_eq (c : Dev nD) (l : Lane) : up2 c l = prv l.1 c := by revert c l; decide

set_option backward.proofsInPublic true in
/-- The chunk of rows a device multiplies in turn `k`: the one that ends, after the hops left, at its own device. -/
def chunk (c : Dev nD) (k : ℕ) : Bool → Fin 4
  | false => ⟨(c.val + 3 - k) % 4, Nat.mod_lt _ (by decide)⟩
  | true => ⟨(c.val + 1 + k) % 4, Nat.mod_lt _ (by decide)⟩

theorem off_eq (c : Dev nD) (k : Fin 4) (d : Bool) : off c k d = ![0, 512 * (chunk c k d).val] := by
  revert c k d; decide

/-! ## Values -/

/-- Chunk `j` of `x` on device `c`, as it lies in memory; -/
def xs (c : Dev nD) (j : Fin 4) : Vec F S2048x512 .f32 :=
  (xM j).view.read (Elt F) (m ((c : Thread nD τ).loc main_arg0))

/-- and as it is kept. -/
def xc (c : Dev nD) (j : Fin 4) : FVec F S2048x512 .bf16 :=
  shapeCast S2048x512 (truncf .bf16 (xs m c j) bitsLt_bf16_f32) shapeCasts_S2048x512_S2048x512

/-- Half `h` of a lane's columns of `dy` on device `c`. -/
def dys (c : Dev nD) (l : Lane) (h : Fin 2) : Vec F S2048x512 .f32 :=
  (dyM l.1 l.2 h).view.read (Elt F) (m ((c : Thread nD τ).loc main_arg1))

/-- The product of a chunk of `x` by columns of `dy`. -/
def mm (w : FVec F S2048x512 .bf16) (v : Vec F S2048x512 .f32) : FVec F S512x512 .f32 :=
  matmul dot_S2048x512_S2048x512_S512x512_0_0_1_1_n_n none w (truncf .bf16 v bitsLt_bf16_f32)
    (constant S512x512 .f32 0x00000000#32)

/-- The product of half a lane that a device makes in turn `k`. -/
def pr (c : Dev nD) (k : ℕ) (l : Lane) (h : Fin 2) : FVec F S512x512 .f32 :=
  mm (xc m c (chunk c k l.1)) (dys m c l h)

set_option backward.proofsInPublic true in
/-- A column of a lane within its half. -/
def halfIdx (i : S512x1024.Idx) : S512x512.Idx :=
  fun a => match a with
    | 0 => i 0
    | 1 => ⟨(i 1).val % 512, Nat.mod_lt _ (by decide)⟩

/-- Two halves side by side. -/
def halves {α : Type} (p q : S512x512.Idx → α) : S512x1024.Idx → α :=
  fun i => if (i 1).val < 512 then p (halfIdx i) else q (halfIdx i)

/-- A device's own product of a lane in turn `k`. -/
def own (c : Dev nD) (k : ℕ) (l : Lane) : FVec F S512x1024 .f32 :=
  halves (pr m c k l 0) (pr m c k l 1)

/-- The partial sum a device sends on in turn `k`. -/
def part : ℕ → Dev nD → Lane → FVec F S512x1024 .bf16
  | 0, c, l => halves (truncf .bf16 (pr m c 0 l 0) bitsLt_bf16_f32) (truncf .bf16 (pr m c 0 l 1) bitsLt_bf16_f32)
  | k + 1, c, l => addf (part k (prv l.1 c) l) (truncf .bf16 (own m c (k + 1) l) bitsLt_bf16_f32)

/-- What a device writes out for a lane. -/
def total (c : Dev nD) (l : Lane) : FVec F S512x1024 .f32 :=
  addf (extf .f32 (part m 2 (prv l.1 c) l) bitsLt_bf16_f32) (own m c 3 l)

/-! ## Cells -/

/-- The semaphores of a lane other devices raise, and those its own sends raise. -/
inductive Part
  | send (b : Fin 2)
  | recv (b : Fin 2)
  | credit
  deriving DecidableEq

instance : Fintype Part where
  elems := {.send 0, .send 1, .recv 0, .recv 1, .credit}
  complete p := by
    rcases p with b | b | _
    · revert b; decide
    · revert b; decide
    · decide

/-- The semaphores of the protocol: the barrier's (`none`) and the lanes'. -/
abbrev Role : Type := Option (Lane × Part)

def semOf : Role → SemLoc sig
  | none => .reg barSem
  | some (l, .send b) => .dma (sendSem l.1 b l.2)
  | some (l, .recv b) => .dma (recvSem l.1 b l.2)
  | some (l, .credit) => .reg (creditSem l.1 l.2)

theorem semOf_injective : Function.Injective semOf := by decide +kernel

def roleOf (sm : SemLoc sig) : Option Role := Function.partialInv semOf sm

theorem roleOf_semOf (k : Role) : roleOf (semOf k) = some k :=
  (Function.partialInv_of_injective semOf_injective k _).mpr rfl

def cell (c : Dev nD) (k : Role) : GSem nD τ sig := ((c : Thread nD τ), semOf k)

abbrev barCell (c : Dev nD) : GSem nD τ sig := cell c none
abbrev sendCell (c : Dev nD) (l : Lane) (b : Fin 2) : GSem nD τ sig := cell c (some (l, .send b))
abbrev recvCell (c : Dev nD) (l : Lane) (b : Fin 2) : GSem nD τ sig := cell c (some (l, .recv b))
abbrev creditCell (c : Dev nD) (l : Lane) : GSem nD τ sig := cell c (some (l, .credit))

/-- The credit of one transfer between devices. -/
def N : ℕ := (subM false 0 0).view.dmaCredit

theorem subM_credit (d : Bool) (b : Fin 2) (s : Fin 4) : (subM d b s).view.dmaCredit = N := by
  cases d <;> rfl

theorem N_pos : 0 < N := View.dmaCredit_pos _ (by decide)

/-! ## What is handed over -/

/-- Slot `b` of a lane on device `c`, holding something; -/
def subAny (c : Dev nD) (l : Lane) (b : Fin 2) : sProp 𝕄 :=
  iprop(∃ f, (subM l.1 b l.2).view.loc (c : Thread nD τ) ↦[(subM l.1 b l.2).view.set]{fullShare} f)

/-- holding `w`. -/
def subIs (c : Dev nD) (l : Lane) (b : Fin 2) (w : Vec F S512x1024 .bf16) : sProp 𝕄 :=
  iprop(∃ f, ⌜(subM l.1 b l.2).view.read (Elt F) f = w⌝
    ∗ (subM l.1 b l.2).view.loc (c : Thread nD τ) ↦[(subM l.1 b l.2).view.set]{fullShare} f)

theorem subIs_any (c : Dev nD) (l : Lane) (b : Fin 2) (w : Vec F S512x1024 .bf16) : subIs c l b w ⊢ subAny c l b := by
  unfold subIs subAny
  iintro ⟨%f, -, H⟩
  iexists f; iexact H

/-- The first slots a device lends to the device before it in a direction. -/
def barPay (x : Dev nD) (d : Bool) : sProp 𝕄 :=
  bigSep Finset.univ fun s : Fin 4 => subAny (nxt d x) (d, s) 1

/-- The hop at which slot `b` of a lane is filled for the `r`-th time. -/
def hopOf (b : Fin 2) (r : ℕ) : ℕ := 2 * r + (1 - b.val)

/-- An arrival: the sender's partial sum, and that the sender's credits have come as far. -/
def recvPay (c : Dev nD) (l : Lane) (b : Fin 2) (r : ℕ) : sProp 𝕄 :=
  iprop(subIs c l b (part m (hopOf b r) (prv l.1 c) l) ∗ reached ER (creditCell (prv l.1 c) l) (hopOf b r))

/-- A credit: a slot of the next device to send into, and that its arrivals there have come as far. -/
def creditPay (u : Dev nD) (l : Lane) (r : ℕ) : sProp 𝕄 :=
  if r = 0 then iprop(subAny (nxt l.1 u) l 0 ∗ reached ER (recvCell (nxt l.1 u) l 0) 0)
  else iprop(subAny (nxt l.1 u) l 1 ∗ reached ER (recvCell (nxt l.1 u) l 1) 1)

instance subAny_storable (c : Dev nD) (l : Lane) (b : Fin 2) : BI.Storable (upEmb : UEmb _ 𝕄) (subAny (F := F) c l b) := by
  unfold subAny; infer_instance
instance subIs_storable (c : Dev nD) (l : Lane) (b : Fin 2) (w : Vec F S512x1024 .bf16) :
    BI.Storable (upEmb : UEmb _ 𝕄) (subIs (F := F) c l b w) := by
  unfold subIs; infer_instance
instance barPay_storable (x : Dev nD) (d : Bool) : BI.Storable (upEmb : UEmb _ 𝕄) (barPay (F := F) x d) := by
  unfold barPay; infer_instance
instance recvPay_storable (c : Dev nD) (l : Lane) (b : Fin 2) (r : ℕ) : BI.Storable (upEmb : UEmb _ 𝕄) (recvPay m c l b r) := by
  unfold recvPay; infer_instance
instance creditPay_storable (c : Dev nD) (l : Lane) (r : ℕ) : BI.Storable (upEmb : UEmb _ 𝕄) (creditPay (F := F) c l r) := by
  unfold creditPay; split <;> infer_instance

/-! ## The schedule -/

/-- How many rounds a semaphore goes through, -/
def rounds : Role → ℕ
  | none => 1
  | some (_, .send b) => 2 - b.val
  | some (_, .recv b) => 1 + b.val
  | some (_, .credit) => 2

/-- who pays in a round (two neighbours at the barrier, one device elsewhere), -/
def payers : Role → Finset Bool
  | none => Finset.univ
  | some _ => {false}

/-- how much, -/
def units : Role → ℕ
  | some (_, .send _) => N
  | some (_, .recv _) => N
  | _ => 1

/-- and what comes with it. -/
def pays (c : Dev nD) (r : ℕ) (d : Bool) : Role → sProp 𝕄
  | none => barPay c d
  | some (l, .send b) => subAny c l b
  | some (l, .recv b) => recvPay m c l b r
  | some (l, .credit) => creditPay c l r

theorem units_pos (k : Role) : 0 < units k := by
  rcases k with _ | ⟨l, _ | _ | _⟩
  · exact Nat.one_pos
  · exact N_pos
  · exact N_pos
  · exact Nat.one_pos

instance pays_storable (c : Dev nD) (r : ℕ) (d : Bool) (k : Role) : BI.Storable (upEmb : UEmb _ 𝕄) (pays m c r d k) := by
  rcases k with _ | ⟨l, _ | _ | _⟩ <;> (unfold pays; infer_instance)

/-- The protocol, by rounds. -/
def ringRd : Rounds.Schedule (GSem nD τ sig) Bool 𝕄 where
  duties g r := match roleOf g.2 with
    | some k => if g.1.2 = .tc ∧ r < rounds k then payers k else ∅
    | none => ∅
  unitless _ := False
  amount g _ _ := match roleOf g.2 with
    | some k => units k
    | none => 1
  payload g r d := match roleOf g.2 with
    | some k => pays m g.1.1 r d k
    | none => iprop(emp)
  amount_pos g _ _ _ := by
    split
    · exact units_pos _
    · exact Nat.one_pos

instance ringRd_payload_storable (g : GSem nD τ sig) (r : ℕ) (d : Bool) :
    BI.Storable (upEmb : UEmb _ 𝕄) ((ringRd m).payload g r d) := by
  show BI.Storable upEmb (match roleOf g.2 with
    | some k => pays m g.1.1 r d k
    | none => iprop(emp))
  split <;> infer_instance

section Sched
variable (c : Dev nD) (k : Role) (r : ℕ) (d : Bool)

theorem duties_cell (h : r < rounds k) : (ringRd m).duties (cell c k) r = payers k := by
  show (match roleOf (semOf k) with
    | some k => if (c : Thread nD τ).2 = Proc.tc ∧ r < rounds k then payers k else ∅
    | none => ∅) = _
  rw [roleOf_semOf]
  exact if_pos ⟨rfl, h⟩

theorem duties_after (h : rounds k ≤ r) : (ringRd m).duties (cell c k) r = ∅ := by
  show (match roleOf (semOf k) with
    | some k => if (c : Thread nD τ).2 = Proc.tc ∧ r < rounds k then payers k else ∅
    | none => ∅) = _
  rw [roleOf_semOf]
  exact if_neg fun h' => absurd h'.2 (Nat.not_lt.mpr h)

theorem amount_cell : (ringRd m).amount (cell c k) r d = units k := by
  show (match roleOf (semOf k) with
    | some k => units k
    | none => 1) = _
  rw [roleOf_semOf]

theorem payload_cell : (ringRd m).payload (cell c k) r d = pays m c r d k := by
  show (match roleOf (semOf k) with
    | some k => pays m c r d k
    | none => iprop(emp)) = _
  rw [roleOf_semOf]

theorem expect_cell (h : r < rounds k) : (ringRd m).expect (cell c k) r = (payers k).card * units k := by
  unfold Schedule.expect Schedule.amountOf
  rw [duties_cell m c k r h, Finset.sum_congr rfl fun d _ => amount_cell m c k r d, Finset.sum_const, smul_eq_mul]

theorem expect_lane (l : Lane) (p : Part) (h : r < rounds (some (l, p))) :
    (ringRd m).expect (cell c (some (l, p))) r = units (some (l, p)) := by
  rw [expect_cell m c _ r h]; show 1 * _ = _; rw [one_mul]

theorem mem_lane (l : Lane) (p : Part) (h : r < rounds (some (l, p))) :
    false ∈ (ringRd m).duties (cell c (some (l, p))) r := by
  rw [duties_cell m c _ r h]; exact Finset.mem_singleton_self _

theorem rest_lane (l : Lane) (p : Part) (h : r < rounds (some (l, p))) :
    bigSep ((ringRd m).duties (cell c (some (l, p))) r \ ∅) (fun d => (ringRd m).payload (cell c (some (l, p))) r d)
      = pays m c r false (some (l, p)) := by
  rw [Finset.sdiff_empty, duties_cell m c _ r h]
  show bigSep {false} _ = _
  rw [bigSep_singleton, payload_cell]

theorem rest_bar :
    bigSep ((ringRd m).duties (barCell c) 0 \ ∅) (fun d => (ringRd m).payload (barCell c) 0 d)
      = iprop(barPay c false ∗ barPay c true) := by
  rw [Finset.sdiff_empty, duties_cell m c none 0 Nat.one_pos]
  show bigSep Finset.univ _ = _
  rw [bigSep_univ_eq_bigSepL [false, true] (by decide) (by decide), bigSepL_cons_cons, bigSepL_singleton,
    payload_cell, payload_cell]
  rfl

end Sched

/-! ## What a device owes -/

/-- The payments of a device to others. -/
inductive Key
  | bar (d : Bool)
  | recv (l : Lane) (h : ℕ)
  | credit (l : Lane) (h : ℕ)

/-- A lane's number in the order of the program. -/
def laneNo (l : Lane) : ℕ := 2 * l.2.val + dn l.1

/-- The level of a payment. -/
def Key.lev : Key → ℕ
  | .bar _ => 0
  | .recv _ h => 16 * h + 1
  | .credit l h => 16 * h + 2 + laneNo l

/-- The slot a hop fills. -/
def slotOf (h : ℕ) : Fin 2 := if h % 2 = 0 then 1 else 0

/-- Whom a device pays. -/
def Key.dst : Key → Dev nD → Dev nD
  | .bar d => prv d
  | .recv l _ => nxt l.1
  | .credit l _ => prv l.1

def Key.role : Key → Role
  | .bar _ => none
  | .recv l h => some (l, .recv (slotOf h))
  | .credit l _ => some (l, .credit)

/-- A payment, made to device `x`. -/
def Key.at (k : Key) (x : Dev nD) : TalkSites.Pay nD τ sig := (cell x k.role, k.lev, units k.role)

/-- The payments of device `c`. -/
def due (c : Dev nD) (ks : List Key) : CellTallies nD τ sig ℕ := TalkSites.tallyL (ks.map fun k => k.at (k.dst c))

/-- Every level is below 64. -/
abbrev L : GSem nD τ sig → Finset ℕ := SiteBlocks.L 64
abbrev lv : GSem nD τ sig → ℕ → ℕ := SiteBlocks.lv

/-- Device `c` still owes the payments `ks`. -/
def Owe (c : Dev nD) (ks : List Key) : sProp 𝕄 := iprop(∃ W, owes (c : Thread nD τ) (due c ks) W)

/-- All payments lie above a level. -/
def Above (i : ℕ) (ks : List Key) : Prop := i < 64 ∧ ∀ k ∈ ks, i < k.lev ∧ k.lev < 64

instance (i : ℕ) (ks : List Key) : Decidable (Above i ks) := by unfold Above; infer_instance

theorem Above.mono {i j : ℕ} {ks : List Key} (h : Above j ks) (hi : i ≤ j) : Above i ks :=
  ⟨by have := h.1; omega, fun k hk => ⟨by have := (h.2 k hk).1; omega, (h.2 k hk).2⟩⟩

theorem Above.cons {i : ℕ} {k : Key} {ks : List Key} (h : Above i ks) (hk : i < k.lev ∧ k.lev < 64) : Above i (k :: ks) :=
  ⟨h.1, fun x hx => by
    rcases List.mem_cons.mp hx with rfl | hx
    · exact hk
    · exact h.2 x hx⟩

theorem due_cons (c : Dev nD) (k : Key) (ks : List Key) :
    due c (k :: ks) = due c ks + tallyAt (cell (k.dst c) k.role) k.lev (units k.role) :=
  add_comm _ _

/-- A wait at a level below everything owed is allowed. -/
theorem mayWait (c : Dev nD) (sm : SemLoc sig) {i : ℕ} {ks : List Key} (h : Above i ks) :
    (levAts L lv : sProp 𝕄) ⊢ MayWait (c : Thread nD τ) sm i (due c ks) :=
  SiteBlocks.mayWait_of h.1 c sm _ fun g j hj => by
    obtain ⟨x, hx, rfl, rfl⟩ := TalkSites.tallyL_pos hj
    obtain ⟨k, hk, rfl⟩ := List.mem_map.mp hx
    exact ⟨SiteBlocks.mem_L' rfl (h.2 k hk).2, (h.2 k hk).1⟩

end Cert.KernelIdeal.Ring

end
-- ==== Proof.Local.lean ====
module

public import proofs.«01_k».proof.Proof.Protocol

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal.Gen

variable {F : FTy → Type} [FloatOps F]

local notation "𝕄" => MT nD τ sig ℕ (Elt F) ℕ UU ℕ

/-! ## The staging pair -/

/-- Half `b` of the staging pair, holding something; -/
def dyvAny (c : Dev nD) (b : Fin 2) : sProp 𝕄 :=
  iprop(∃ f, (dyvM b).view.loc (c : Thread nD τ) ↦[(dyvM b).view.set]{fullShare} f)

/-- holding `v`. -/
def dyvIs (c : Dev nD) (b : Fin 2) (v : Vec F S2048x512 .f32) : sProp 𝕄 :=
  iprop(∃ f, ⌜(dyvM b).view.read (Elt F) f = v⌝
    ∗ (dyvM b).view.loc (c : Thread nD τ) ↦[(dyvM b).view.set]{fullShare} f)

theorem dyvIs_any (c : Dev nD) (b : Fin 2) (v : Vec F S2048x512 .f32) : dyvIs c b v ⊢ dyvAny c b := by
  unfold dyvIs dyvAny
  iintro ⟨%f, -, H⟩
  iexists f; iexact H

/-- The credit of a copy into the pair. -/
def ND : ℕ := (dyvM 0).view.dmaCredit

theorem dyvM_credit (b : Fin 2) : (dyvM b).view.dmaCredit = ND := rfl
theorem ND_pos : 0 < ND := View.dmaCredit_pos _ (by decide)

/-- An array read by half `b` of the pair: half of its share. -/
def shareOf : Fin 2 → PosShare TreeShare
  | 0 => fullShare.left
  | 1 => fullShare.right

/-- Half `b` of the pair at rest: the half, its semaphore at zero, and its share of the array it reads. -/
def Idle (c : Dev nD) (A : Ref sig .tc) (X : Buf (Elt F) ((c : Thread nD τ).loc A)) (b : Fin 2) : sProp 𝕄 :=
  iprop(dyvAny c b ∗ semVal ((c : Thread nD τ), SemLoc.dma (localSem b)) 0 ∗ (c : Thread nD τ).loc A ↦{shareOf b} X)

/-- Half `b` of the pair while it is filled from `src`. -/
def Filling (c : Dev nD) (src : Memref sig .tc .hbm S2048x512 .f32) (fs : Buf (Elt F) (src.view.loc (c : Thread nD τ)))
    (b : Fin 2) : sProp 𝕄 :=
  iprop(Flight EC (c : Thread nD τ) (SemLoc.dma (localSem b)) 0 ND
      iprop(dyvIs c b (src.view.read (Elt F) fs) ∗ src.view.loc (c : Thread nD τ) ↦[src.view.set]{shareOf b} fs)
    ∗ src.view.loc (c : Thread nD τ) ↦[Finset.univ \ src.view.set]{shareOf b} fs)

section
variable {α : Type} {Q : α → sProp (MT nD τ sig ℕ (Elt F) ℕ UU ℕ)} (c : Dev nD) (src : Memref sig .tc .hbm S2048x512 .f32) (fs : Buf (Elt F) (src.view.loc (c : Thread nD τ)))
  (b : Fin 2) (k : PUnit → Body F α)

/-- Starting a copy into an idle half. -/
theorem copyIn_wp : (Idle c src.view.ref fs b : sProp 𝕄) ⊢ iprop((Filling c src fs b -∗ WP c (k ⟨⟩) Q) -∗ WP c (copyIn src b >>= k) Q) := by
  simp only [copyIn, Prog.lift, Prog.bind_op, Prog.bind_ret]
  unfold Idle Filling dyvAny
  iintro ⟨⟨%fd, Hd⟩, Hs, Hx⟩ Hk
  ihave Hx := (pointsTo_split_subset (Finset.subset_univ src.view.set) (ℓ := src.view.loc (c : Thread nD τ)) (q := shareOf b) (f := fs)).1 $$ Hx
  icases Hx with ⟨Hx, Hr⟩
  iapply (wp_dmaLocal EC 𝒱₀ (c : Thread nD τ) none (src := src) (dst := dyvM b) (sm := .dma (localSem b)) 0 ND
      (show (dyvM b).view.dmaCredit = ND from dyvM_credit b) ND_pos (Finset.Subset.refl _)) $$ [Hx Hd Hs]
  · isplitl [Hx]; · iexact Hx
    isplitl [Hd]; · iexact Hd
    iexact Hs
  iintro Hf
  iapply Hk
  isplitl [Hf]
  · iapply (Flight_mono EC (c : Thread nD τ) _) $$ Hf
    unfold dyvIs
    iintro ⟨Hd, Hx⟩
    isplitl [Hd]
    · iexists ((dyvM b).view.write (Elt F) fd (src.view.read (Elt F) fs) Finset.univ); isplitr
      · ipureintro; exact View.read_write_univ ..
      iexact Hd
    iexact Hx
  iexact Hr

/-- Waiting for it. -/
theorem copyWait_wp (ks : List Key) (hks : Above 0 ks) :
    (iprop(levAts L lv ∗ Filling c src fs b ∗ Owe c ks) : sProp 𝕄)
      ⊢ iprop((iprop(dyvIs c b (src.view.read (Elt F) fs) ∗ semVal ((c : Thread nD τ), SemLoc.dma (localSem b)) 0
            ∗ ((c : Thread nD τ).loc src.view.ref ↦{shareOf b} fs) ∗ Owe c ks)
          -∗ WP c (k ⟨⟩) Q) -∗ WP c (copyWait src b >>= k) Q) := by
  simp only [copyWait, Prog.lift, Prog.bind_op, Prog.bind_ret]
  unfold Filling Owe
  iintro ⟨#Hlev, ⟨Hf, Hr⟩, ⟨%W, HO⟩⟩ Hk
  iapply (wp_waitLocalO EC 𝒱₀ (c : Thread nD τ) none (srcw := src) (dstw := dyvM b)
      (hsrc := View.wordExact_bits rfl) (hdst := (View.wordExact_bits rfl).reshape _ _) 0 (dyvM_credit b)) $$ [Hf HO]
  · isplitl [Hf]; · iexact Hf
    isplitl [HO]; · iexact HO
    iapply (mayWait c _ hks); iexact Hlev
  iintro ⟨⟨Hd, Hx⟩, Hs, HO⟩
  iapply Hk
  isplitl [Hd]; · iexact Hd
  isplitl [Hs]; · iexact Hs
  isplitl [Hx Hr]
  · iapply (pointsTo_split_subset (Finset.subset_univ src.view.set) (ℓ := src.view.loc (c : Thread nD τ)) (q := shareOf b) (f := fs)).2
    isplitl [Hx]; · iexact Hx
    iexact Hr
  iexists _; iexact HO

theorem dyvM_set : ((dyv).access (rDyv b)).set = (dyvM b).view.set := (View.set_reshape _ _).symm

/-- Reading a half of the pair. -/
theorem loadDyv_wp (v : Vec F S2048x512 .f32) (k : Vec F S1x2048x512 .f32 → Body F α) :
    (dyvIs c b v : sProp 𝕄)
      ⊢ iprop((∀ w, ⌜shapeCast S2048x512 w shapeCasts_S1x2048x512_S2048x512 = v⌝ -∗ dyvIs c b v -∗ WP c (k w) Q) -∗ WP c (loadDyv b >>= k) Q) := by
  simp only [loadDyv, Prog.lift, Prog.bind_op, Prog.bind_ret]
  unfold dyvIs
  iintro ⟨%f, %hf, H⟩ Hk
  iapply (wp_load_rect 𝒱₀ (c : Thread nD τ) none Set.univ (m := dyv) (r := rDyv b) (hl := View.loadsAt_vmem h_S1x2048x512)
    (S := (dyvM b).view.set) (q := fullShare) (f := f) (dyvM_set b).subset) $$ [H]
  · iexact H
  iintro H
  iapply Hk $$ [] [H]
  · ipureintro; exact hf
  iexists f; isplitr; · (ipureintro; exact hf)
  iexact H

end

end Cert.KernelIdeal.Ring

end
-- ==== Proof.Pure.lean ====
module

public import proofs.«01_k».proof.Proof.Protocol
public import Idealize.ShloMosaic.Lib.Pipeline.Value

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal.Gen

variable {F : FTy → Type} [FloatOps F]

local notation "𝕄" => MT nD τ sig ℕ (Elt F) ℕ UU ℕ

variable (m : (ℓ : Loc nD τ sig) → Buf (Elt F) ℓ)

/-! ## Rectangles written and read back -/

/-- A region written in two halves, read whole. -/
theorem read_two {κ : Kind} {sp : Space} {e : EltTy} {d : Fin 3 → ℕ} (v : View sig κ sp ⟨3, d⟩ e) (o o₀ o₁ : Fin 3 → ℕ)
    (inb : ∀ a, o a + S1x512x1024.size a ≤ d a) (inb₀ : ∀ a, o₀ a + S1x512x512.size a ≤ d a)
    (inb₁ : ∀ a, o₁ a + S1x512x512.size a ≤ d a) (h0 : o₀ = o) (h10 : o₁ 0 = o 0) (h11 : o₁ 1 = o 1) (h12 : o₁ 2 = o 2 + 512)
    (f : v.ty.Contents (Elt F)) (w0 w1 : S1x512x512.Idx → Elt F e) :
    shapeCast S512x1024 ((v.slice (Rect.unit (s := ⟨3, d⟩) o S1x512x1024.size inb)).read (Elt F)
        ((v.slice (Rect.unit (s := ⟨3, d⟩) o₁ S1x512x512.size inb₁)).write (Elt F)
          ((v.slice (Rect.unit (s := ⟨3, d⟩) o₀ S1x512x512.size inb₀)).write (Elt F) f w0 Finset.univ) w1 Finset.univ))
        shapeCasts_S1x512x1024_S512x1024
      = halves (shapeCast S512x512 w0 (by decide)) (shapeCast S512x512 w1 (by decide)) := by
  subst h0
  funext i
  have e0 : ∀ w : S1x512x512.Idx → Elt F e, ∀ j : S512x512.Idx, shapeCast S512x512 w (by decide) j = w (Fin.cons ⟨0, Nat.one_pos⟩ j) :=
    fun w j => shapeCast_dropUnit_apply ![512, 512] w _ j
  refine (shapeCast_dropUnit_apply ![512, 1024] _ _ i).trans ?_
  change v.read (Elt F) _ ((Rect.unit (s := ⟨3, d⟩) o₀ S1x512x1024.size inb).emb (Fin.cons ⟨0, Nat.one_pos⟩ i)) = _
  have hlt : (i 1).val < 1024 := (i 1).isLt
  unfold halves
  split
  · next hi =>
    rw [View.read_slice_write_of_not_mem, e0]
    · have he : (Rect.unit (s := ⟨3, d⟩) o₀ S1x512x1024.size inb).emb (Fin.cons ⟨0, Nat.one_pos⟩ i)
          = (Rect.unit (s := ⟨3, d⟩) o₀ S1x512x512.size inb₀).emb (Fin.cons ⟨0, Nat.one_pos⟩ (halfIdx i)) := by
        funext a
        apply Fin.ext
        rw [Rect.emb_apply, Rect.emb_apply]
        match a with
        | 0 => rfl
        | 1 => rfl
        | 2 =>
          show o₀ 2 + 1 * (i 1).val = o₀ 2 + 1 * ((i 1).val % 512)
          rw [Nat.mod_eq_of_lt hi]
      rw [he, View.read_slice_write_emb _ _ _ (Finset.mem_univ _)]
    · rw [Rect.map_emb_univ, Rect.mem_set_unit]
      intro h
      have := (h 2).1
      rw [Rect.emb_apply, h12] at this
      have h2 : o₀ 2 + 512 ≤ o₀ 2 + 1 * (i 1).val := this
      omega
  · next hi =>
    rw [e0]
    have he : (Rect.unit (s := ⟨3, d⟩) o₀ S1x512x1024.size inb).emb (Fin.cons ⟨0, Nat.one_pos⟩ i)
        = (Rect.unit (s := ⟨3, d⟩) o₁ S1x512x512.size inb₁).emb (Fin.cons ⟨0, Nat.one_pos⟩ (halfIdx i)) := by
      funext a
      apply Fin.ext
      rw [Rect.emb_apply, Rect.emb_apply]
      match a with
      | 0 => show o₀ 0 + 1 * 0 = o₁ 0 + 1 * 0; rw [h10]
      | 1 => show o₀ 1 + 1 * (i 0).val = o₁ 1 + 1 * (i 0).val; rw [h11]
      | 2 =>
        show o₀ 2 + 1 * (i 1).val = o₁ 2 + 1 * ((i 1).val % 512)
        rw [h12]; omega
    rw [he, View.read_slice_write_emb _ _ _ (Finset.mem_univ _)]

/-- Chunks of `x` lie apart. -/
theorem rX_disjoint {i j : Fin 4} (h : i ≠ j) : Disjoint (rX i).set (rX j).set :=
  Rect.unit_disjoint (1 : Fin 2) (by
    have := Fin.val_ne_of_ne h
    show 512 * i.val + 512 ≤ 512 * j.val ∨ 512 * j.val + 512 ≤ 512 * i.val
    omega)

/-- A chunk written is read back, -/
theorem rX_write_self (f : xbf.view.ty.Contents (Elt F)) (j : Fin 4) (w : S2048x512.Idx → Elt F .bf16) :
    (xbf.access (rX j)).read (Elt F) ((xbf.access (rX j)).write (Elt F) f w Finset.univ) = w := View.read_write_univ ..

/-- and the others are left as they were. -/
theorem rX_write_ne (f : xbf.view.ty.Contents (Elt F)) (j : Fin 4) (w : S2048x512.Idx → Elt F .bf16) (i : Fin 4) (h : i ≠ j) :
    (xbf.access (rX i)).read (Elt F) ((xbf.access (rX j)).write (Elt F) f w Finset.univ)
      = (xbf.access (rX i)).read (Elt F) f := by
  refine View.read_slice_write_slice_of_disjoint _ _ _ _ _ ?_
  show Disjoint (xbf.view.slice (rX i)).set (xbf.view.slice (rX j)).set
  rw [View.set_slice, View.set_slice]
  exact (Finset.disjoint_map _).mpr (rX_disjoint h)

/-! ## The vectors computed, by their values -/

theorem castX_eq (v : Vec F S1x2048x512 .f32) (x : Vec F S2048x512 .f32)
    (h : shapeCast S2048x512 v shapeCasts_S1x2048x512_S2048x512 = x) :
    castX v = shapeCast S2048x512 (truncf .bf16 x bitsLt_bf16_f32) shapeCasts_S2048x512_S2048x512 := by
  subst h; rfl

theorem prodBf_eq (w : FVec F S2048x512 .bf16) (v : Vec F S1x2048x512 .f32) (x : Vec F S2048x512 .f32)
    (h : shapeCast S2048x512 v shapeCasts_S1x2048x512_S2048x512 = x) :
    shapeCast S512x512 (prodBf w v) (by decide) = truncf .bf16 (mm w x) bitsLt_bf16_f32 := by
  subst h; unfold prodBf k0_pay5; simp only [shapeCast_shapeCast]; rfl

theorem prodF_eq (w : FVec F S2048x512 .bf16) (v : Vec F S1x2048x512 .f32) (x : Vec F S2048x512 .f32)
    (h : shapeCast S2048x512 v shapeCasts_S1x2048x512_S2048x512 = x) :
    shapeCast S512x512 (prodF w v) (by decide) = mm w x := by
  subst h; unfold prodF k0_pay28; simp only [shapeCast_shapeCast]; rfl

theorem addBf_eq (v : Vec F S1x512x1024 .bf16) (w : Vec F S1x512x1024 .f32) (x : FVec F S512x1024 .bf16) (y : FVec F S512x1024 .f32)
    (hx : shapeCast S512x1024 v shapeCasts_S1x512x1024_S512x1024 = x)
    (hy : shapeCast S512x1024 w shapeCasts_S1x512x1024_S512x1024 = y) :
    shapeCast S512x1024 (addBf v w) shapeCasts_S1x512x1024_S512x1024 = addf x (truncf .bf16 y bitsLt_bf16_f32) := by
  subst hx hy; unfold addBf k0_pay27 k0_pay26; simp only [shapeCast_shapeCast]

theorem addF_eq (v : Vec F S1x512x1024 .bf16) (w : Vec F S1x512x1024 .f32) (x : FVec F S512x1024 .bf16) (y : FVec F S512x1024 .f32)
    (hx : shapeCast S512x1024 v shapeCasts_S1x512x1024_S512x1024 = x)
    (hy : shapeCast S512x1024 w shapeCasts_S1x512x1024_S512x1024 = y) :
    shapeCast S512x1024 (addF v w) shapeCasts_S1x512x1024_S512x1024 = addf (extf .f32 x bitsLt_bf16_f32) y := by
  subst hx hy; unfold addF k0_pay88; simp only [shapeCast_shapeCast]

end Cert.KernelIdeal.Ring

end
-- ==== Proof.Compute.lean ====
module

public import proofs.«01_k».proof.Proof.Local
public import proofs.«01_k».proof.Proof.Pure

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal.Gen

variable {F : FTy → Type} [FloatOps F]

local notation "𝕄" => MT nD τ sig ℕ (Elt F) ℕ UU ℕ

variable (m : (ℓ : Loc nD τ sig) → Buf (Elt F) ℓ)

variable {α : Type} {Q : α → sProp (MT nD τ sig ℕ (Elt F) ℕ UU ℕ)} (c : Dev nD)

/-! ## The chunks of `x` -/

/-- The kept copy of `x`, with the chunks in `S` in place. -/
def XSome (S : Finset (Fin 4)) : sProp 𝕄 :=
  iprop(∃ f : Buf (Elt F) (xbf.view.loc (c : Thread nD τ)), ⌜∀ j ∈ S, (xbf.access (rX j)).read (Elt F) f = xc m c j⌝ ∗ xbf.view.loc (c : Thread nD τ) ↦{fullShare} f)

/-- A half of the staging pair idle between copies from `x`; -/
abbrev IdleX (b : Fin 2) : sProp 𝕄 := Idle c main_arg0 (m ((c : Thread nD τ).loc main_arg0)) b

/-- from `dy`. -/
abbrev IdleDy (b : Fin 2) : sProp 𝕄 := Idle c main_arg1 (m ((c : Thread nD τ).loc main_arg1)) b

/-- A half of the staging pair being filled with a chunk of `x`; -/
abbrev FillX (j : Fin 4) (b : Fin 2) : sProp 𝕄 := Filling c (xM j) (m ((c : Thread nD τ).loc main_arg0)) b

/-- with half `h` of a lane's columns of `dy`. -/
abbrev FillDy (l : Lane) (h b : Fin 2) : sProp 𝕄 := Filling c (dyM l.1 l.2 h) (m ((c : Thread nD τ).loc main_arg1)) b

theorem xIn_wp (j : Fin 4) (b : Fin 2) (k : PUnit → Body F α) :
    (IdleX m c b : sProp 𝕄) ⊢ iprop((FillX m c j b -∗ WP c (k ⟨⟩) Q) -∗ WP c (copyIn (xM j) b >>= k) Q) :=
  copyIn_wp c (xM j) (m ((c : Thread nD τ).loc main_arg0)) b k

theorem dyIn_wp (l : Lane) (h b : Fin 2) (k : PUnit → Body F α) :
    (IdleDy m c b : sProp 𝕄) ⊢ iprop((FillDy m c l h b -∗ WP c (k ⟨⟩) Q) -∗ WP c (copyIn (dyM l.1 l.2 h) b >>= k) Q) :=
  copyIn_wp c (dyM l.1 l.2 h) (m ((c : Thread nD τ).loc main_arg1)) b k

theorem xWait_wp (j : Fin 4) (b : Fin 2) (ks : List Key) (hks : Above 0 ks) (k : PUnit → Body F α) :
    (iprop(levAts L lv ∗ FillX m c j b ∗ Owe c ks) : sProp 𝕄)
      ⊢ iprop((iprop(dyvIs c b (xs m c j) ∗ semVal ((c : Thread nD τ), SemLoc.dma (localSem b)) 0
            ∗ ((c : Thread nD τ).loc main_arg0 ↦{shareOf b} m ((c : Thread nD τ).loc main_arg0)) ∗ Owe c ks)
          -∗ WP c (k ⟨⟩) Q) -∗ WP c (copyWait (xM j) b >>= k) Q) :=
  copyWait_wp c (xM j) (m ((c : Thread nD τ).loc main_arg0)) b k ks hks

theorem dyWait_wp (l : Lane) (h b : Fin 2) (ks : List Key) (hks : Above 0 ks) (k : PUnit → Body F α) :
    (iprop(levAts L lv ∗ FillDy m c l h b ∗ Owe c ks) : sProp 𝕄)
      ⊢ iprop((iprop(dyvIs c b (dys m c l h) ∗ semVal ((c : Thread nD τ), SemLoc.dma (localSem b)) 0
            ∗ ((c : Thread nD τ).loc main_arg1 ↦{shareOf b} m ((c : Thread nD τ).loc main_arg1)) ∗ Owe c ks)
          -∗ WP c (k ⟨⟩) Q) -∗ WP c (copyWait (dyM l.1 l.2 h) b >>= k) Q) :=
  copyWait_wp c (dyM l.1 l.2 h) (m ((c : Thread nD τ).loc main_arg1)) b k ks hks

/-- Keeping a chunk of `x`. -/
theorem xTake_wp (j : Fin 4) (b : Fin 2) (S : Finset (Fin 4)) (ks : List Key) (hks : Above 0 ks) (k : PUnit → Body F α) :
    (iprop(levAts L lv ∗ FillX m c j b ∗ XSome m c S ∗ Owe c ks) : sProp 𝕄)
      ⊢ iprop((iprop(IdleX m c b ∗ XSome m c (insert j S) ∗ Owe c ks) -∗ WP c (k ⟨⟩) Q) -∗ WP c (xTake j b >>= k) Q) := by
  unfold xTake
  simp only [bind_assoc]
  iintro ⟨#Hlev, Hf, Hx, HO⟩ Hk
  iapply (xWait_wp m c j b ks hks) $$ [Hf HO]
  · isplitr; · iexact Hlev
    isplitl [Hf]; · iexact Hf
    iexact HO
  iintro ⟨Hd, Hs, Ha, HO⟩
  iapply (loadDyv_wp c b (xs m c j)) $$ Hd
  iintro %v %hv Hd
  simp only [Prog.lift, Prog.bind_op, Prog.bind_ret]
  unfold XSome
  icases Hx with ⟨%f, %hf, Hx⟩
  iapply (wp_load_rect 𝒱₀ (c : Thread nD τ) none Set.univ (m := xbf) (r := rX j) (hl := View.loadsAt_vmem h_S2048x512)
    (S := Finset.univ) (q := fullShare) (f := f) (Finset.subset_univ _)) $$ [Hx]
  · iexact Hx
  iintro Hx
  iapply (wp_store 𝒱₀ (c : Thread nD τ) none Set.univ (m := xbf) (r := rX j) (w := castX v) (Mk := Finset.univ)
    (hx := View.stores_vmem h_S2048x512 ((Memref.isWhole_whole _).storeExact_slice rfl _ (rX_packed j)) (fun _ => rfl)) (hm := .inl rfl)
    (S := Finset.univ) (f := f) (Finset.subset_univ _)) $$ [Hx]
  · iexact Hx
  iintro Hx
  iapply Hk
  isplitl [Hd Hs Ha]
  · unfold IdleX Idle
    isplitl [Hd]; · iapply (dyvIs_any c b _) $$ Hd
    isplitl [Hs]; · iexact Hs
    iexact Ha
  isplitl [Hx]
  · iexists ((xbf.access (rX j)).write (Elt F) f (castX v) Finset.univ)
    isplitr
    · ipureintro
      intro i hi
      by_cases h : i = j
      · subst h
        exact (rX_write_self f i _).trans (castX_eq v _ hv)
      · exact (rX_write_ne f j _ i h).trans (hf i (Finset.mem_of_mem_insert_of_ne hi h))
    iexact Hx
  iexact HO

/-- The kept copy of `x`, complete. -/
abbrev XAll : sProp 𝕄 := XSome m c Finset.univ

/-- Reading in the whole of `x`. -/
theorem xLoad_wp (ks : List Key) (hks : Above 0 ks) (k : PUnit → Body F α) :
    (iprop(levAts L lv ∗ IdleX m c 0 ∗ IdleX m c 1 ∗ XSome m c ∅ ∗ Owe c ks) : sProp 𝕄)
      ⊢ iprop((iprop(IdleX m c 0 ∗ IdleX m c 1 ∗ XAll m c ∗ Owe c ks) -∗ WP c (k ⟨⟩) Q) -∗ WP c (xLoad >>= k) Q) := by
  unfold xLoad
  simp only [bind_assoc]
  iintro ⟨#Hlev, H0, H1, Hx, HO⟩ Hk
  iapply (xIn_wp m c 0 0) $$ H0; iintro H0
  iapply (xIn_wp m c 1 1) $$ H1; iintro H1
  iapply (xTake_wp m c 0 0 ∅ ks hks) $$ [H0 Hx HO]
  · isplitr; · iexact Hlev
    isplitl [H0]; · iexact H0
    isplitl [Hx]; · iexact Hx
    iexact HO
  iintro ⟨H0, Hx, HO⟩
  iapply (xIn_wp m c 2 0) $$ H0; iintro H0
  iapply (xTake_wp m c 1 1 _ ks hks) $$ [H1 Hx HO]
  · isplitr; · iexact Hlev
    isplitl [H1]; · iexact H1
    isplitl [Hx]; · iexact Hx
    iexact HO
  iintro ⟨H1, Hx, HO⟩
  iapply (xIn_wp m c 3 1) $$ H1; iintro H1
  iapply (xTake_wp m c 2 0 _ ks hks) $$ [H0 Hx HO]
  · isplitr; · iexact Hlev
    isplitl [H0]; · iexact H0
    isplitl [Hx]; · iexact Hx
    iexact HO
  iintro ⟨H0, Hx, HO⟩
  iapply (xTake_wp m c 3 1 _ ks hks) $$ [H1 Hx HO]
  · isplitr; · iexact Hlev
    isplitl [H1]; · iexact H1
    isplitl [Hx]; · iexact Hx
    iexact HO
  iintro ⟨H1, Hx, HO⟩
  iapply Hk
  isplitl [H0]; · iexact H0
  isplitl [H1]; · iexact H1
  isplitl [Hx]
  · unfold XAll
    rw [show (Finset.univ : Finset (Fin 4)) = insert 3 (insert 2 (insert 1 (insert 0 ∅))) by decide]
    iexact Hx
  iexact HO

/-- Reading a chunk of it. -/
theorem loadX_wp (off : Fin 2 → ℕ) (hoff : ∀ a, off a + S2048x512.size a ≤ S2048x2048.size a) (j : Fin 4)
    (hj : off = ![0, 512 * j.val]) (k : Vec F S2048x512 .bf16 → Body F α) :
    (XAll m c : sProp 𝕄) ⊢ iprop((XAll m c -∗ WP c (k (xc m c j)) Q) -∗ WP c (loadX off hoff >>= k) Q) := by
  subst hj
  simp only [loadX, Prog.lift, Prog.bind_op, Prog.bind_ret]
  unfold XAll XSome
  iintro ⟨%f, %hf, Hx⟩ Hk
  iapply (wp_load_rect 𝒱₀ (c : Thread nD τ) none Set.univ (m := xbf) (r := rX j) (hl := View.loadsAt_vmem h_S2048x512)
    (S := Finset.univ) (q := fullShare) (f := f) (Finset.subset_univ _)) $$ [Hx]
  · iexact Hx
  iintro Hx
  rw [show (xbf.access (rX j)).read (Elt F) f = xc m c j from hf j (Finset.mem_univ j)]
  iapply Hk
  iexists f
  isplitr; · (ipureintro; exact hf)
  iexact Hx

/-! ## The accumulators -/

/-- The two accumulators, holding something; -/
def AccAny : sProp 𝕄 := iprop(∃ f : Buf (Elt F) (acc.view.loc (c : Thread nD τ)), acc.view.loc (c : Thread nD τ) ↦{fullShare} f)

/-- a direction's holding `w`. -/
def AccIs (d : Bool) (w : FVec F S512x1024 .f32) : sProp 𝕄 :=
  iprop(∃ f : Buf (Elt F) (acc.view.loc (c : Thread nD τ)),
    ⌜shapeCast S512x1024 ((acc.access (rAcc (dix d))).read (Elt F) f) shapeCasts_S1x512x1024_S512x1024 = w⌝
    ∗ acc.view.loc (c : Thread nD τ) ↦{fullShare} f)

theorem AccIs_any (d : Bool) (w : FVec F S512x1024 .f32) : AccIs c d w ⊢ AccAny c := by
  unfold AccIs AccAny
  iintro ⟨%f, -, H⟩
  iexists f; iexact H

/-- Filling half an accumulator. -/
theorem accHalf_wp (l : Lane) (h : Fin 2) (w : FVec F S2048x512 .bf16) (f : Buf (Elt F) (acc.view.loc (c : Thread nD τ)))
    (ks : List Key) (hks : Above 0 ks) (k : PUnit → Body F α) :
    (iprop(levAts L lv ∗ FillDy m c l h h ∗ (acc.view.loc (c : Thread nD τ) ↦{fullShare} f) ∗ Owe c ks) : sProp 𝕄)
      ⊢ iprop((iprop(IdleDy m c h ∗ (∃ v : Vec F S1x512x512 .f32, ⌜shapeCast S512x512 v (by decide) = mm w (dys m c l h)⌝
            ∗ acc.view.loc (c : Thread nD τ) ↦{fullShare} (acc.access (rAccHalf (dix l.1) h)).write (Elt F) f v Finset.univ) ∗ Owe c ks)
          -∗ WP c (k ⟨⟩) Q) -∗ WP c (accHalf l.1 l.2 h w >>= k) Q) := by
  unfold accHalf
  simp only [bind_assoc]
  iintro ⟨#Hlev, Hf, Hx, HO⟩ Hk
  iapply (dyWait_wp m c l h h ks hks) $$ [Hf HO]
  · isplitr; · iexact Hlev
    isplitl [Hf]; · iexact Hf
    iexact HO
  iintro ⟨Hd, Hs, Ha, HO⟩
  iapply (loadDyv_wp c h (dys m c l h)) $$ Hd
  iintro %v %hv Hd
  simp only [Prog.lift, Prog.bind_op, Prog.bind_ret]
  iapply (wp_load_rect 𝒱₀ (c : Thread nD τ) none Set.univ (m := acc) (r := rAccHalf (dix l.1) h) (hl := View.loadsAt_vmem h_S1x512x512)
    (S := Finset.univ) (q := fullShare) (f := f) (Finset.subset_univ _)) $$ [Hx]
  · iexact Hx
  iintro Hx
  iapply (wp_store 𝒱₀ (c : Thread nD τ) none Set.univ (m := acc) (r := rAccHalf (dix l.1) h) (w := prodF w v) (Mk := Finset.univ)
    (hx := View.stores_vmem_bits_univ h_S1x512x512 rfl) (hm := .inl rfl)
    (S := Finset.univ) (f := f) (Finset.subset_univ _)) $$ [Hx]
  · iexact Hx
  iintro Hx
  iapply Hk
  isplitl [Hd Hs Ha]
  · unfold IdleDy Idle
    isplitl [Hd]; · iapply (dyvIs_any c h _) $$ Hd
    isplitl [Hs]; · iexact Hs
    iexact Ha
  isplitl [Hx]
  · iexists (prodF w v)
    isplitr; · (ipureintro; exact prodF_eq w v _ hv)
    iexact Hx
  iexact HO

/-- What a lane's product uses and gives back. -/
def Work : sProp 𝕄 := iprop(IdleDy m c 0 ∗ IdleDy m c 1 ∗ XAll m c)

/-- A lane's own product in a turn, into the accumulator. -/
theorem accLane_wp (l : Lane) (t : ℕ) (off : Fin 2 → ℕ) (hoff : ∀ a, off a + S2048x512.size a ≤ S2048x2048.size a)
    (hj : off = ![0, 512 * (chunk c t l.1).val]) (ks : List Key) (hks : Above 0 ks) (k : PUnit → Body F α) :
    (iprop(levAts L lv ∗ Work m c ∗ AccAny c ∗ Owe c ks) : sProp 𝕄)
      ⊢ iprop((iprop(Work m c ∗ AccIs c l.1 (own m c t l) ∗ Owe c ks) -∗ WP c (k ⟨⟩) Q)
          -∗ WP c (accLane l.1 l.2 off hoff >>= k) Q) := by
  unfold accLane Work AccAny
  simp only [bind_assoc]
  iintro ⟨#Hlev, ⟨H0, H1, HX⟩, ⟨%f, Hx⟩, HO⟩ Hk
  iapply (loadX_wp m c off hoff _ hj) $$ HX; iintro HX
  iapply (dyIn_wp m c l 0 0) $$ H0; iintro H0
  iapply (dyIn_wp m c l 1 1) $$ H1; iintro H1
  iapply (accHalf_wp m c l 0 _ f ks hks) $$ [H0 Hx HO]
  · isplitr; · iexact Hlev
    isplitl [H0]; · iexact H0
    isplitl [Hx]; · iexact Hx
    iexact HO
  iintro ⟨H0, ⟨%v0, %hv0, Hx⟩, HO⟩
  iapply (accHalf_wp m c l 1 _ _ ks hks) $$ [H1 Hx HO]
  · isplitr; · iexact Hlev
    isplitl [H1]; · iexact H1
    isplitl [Hx]; · iexact Hx
    iexact HO
  iintro ⟨H1, ⟨%v1, %hv1, Hx⟩, HO⟩
  iapply Hk
  isplitl [H0 H1 HX]
  · isplitl [H0]; · iexact H0
    isplitl [H1]; · iexact H1
    iexact HX
  isplitl [Hx]
  · unfold AccIs
    iexists _
    isplitr
    swap
    · iexact Hx
    ipureintro
    refine (read_two acc.view ![(dix l.1).val, 0, 0] ![(dix l.1).val, 0, 512 * (0 : Fin 2).val] ![(dix l.1).val, 0, 512 * (1 : Fin 2).val]
      (inbAcc _) (inbAccHalf _ 0) (inbAccHalf _ 1) rfl rfl rfl rfl f v0 v1).trans ?_
    rw [hv0, hv1]; rfl
  iexact HO

/-! ## The first products -/

theorem subHalf_sub (l : Lane) (h : Fin 2) : ((comm l.1).access (rSubHalf l.2 h)).set ⊆ (subM l.1 0 l.2).view.set := by
  rw [show (subM l.1 0 l.2).view.set = ((comm l.1).view.slice (rSub 0 l.2)).set from View.set_reshape _ _]
  show ((comm l.1).view.slice (rSubHalf l.2 h)).set ⊆ _
  rw [View.set_slice, View.set_slice]
  refine Finset.map_subset_map.mpr fun i hi => ?_
  unfold rSubHalf at hi
  unfold rSub
  rw [Rect.mem_set_unit] at hi ⊢
  intro a
  have := hi a
  have hh := h.isLt
  match a with
  | 0 => exact this
  | 1 => exact this
  | 2 =>
    have h1 : 1024 * l.2.val + 512 * h.val ≤ (i 2).val := this.1
    have h2 : (i 2).val < 1024 * l.2.val + 512 * h.val + 512 := this.2
    show 1024 * l.2.val ≤ (i 2).val ∧ (i 2).val < 1024 * l.2.val + 1024
    omega

/-- Filling half a lane's first slot. -/
theorem initHalf_wp (l : Lane) (h : Fin 2) (w : FVec F S2048x512 .bf16) (f : Buf (Elt F) ((subM l.1 0 l.2).view.loc (c : Thread nD τ)))
    (ks : List Key) (hks : Above 0 ks) (k : PUnit → Body F α) :
    (iprop(levAts L lv ∗ FillDy m c l h h ∗ ((subM l.1 0 l.2).view.loc (c : Thread nD τ) ↦[(subM l.1 0 l.2).view.set]{fullShare} f)
        ∗ Owe c ks) : sProp 𝕄)
      ⊢ iprop((iprop(IdleDy m c h ∗ (∃ v : Vec F S1x512x512 .bf16,
              ⌜shapeCast S512x512 v (by decide) = truncf .bf16 (mm w (dys m c l h)) bitsLt_bf16_f32⌝
            ∗ (subM l.1 0 l.2).view.loc (c : Thread nD τ) ↦[(subM l.1 0 l.2).view.set]{fullShare}
                ((comm l.1).access (rSubHalf l.2 h)).write (Elt F) f v Finset.univ) ∗ Owe c ks)
          -∗ WP c (k ⟨⟩) Q) -∗ WP c (initHalf l.1 l.2 h w >>= k) Q) := by
  unfold initHalf
  simp only [bind_assoc]
  iintro ⟨#Hlev, Hf, Hx, HO⟩ Hk
  iapply (dyWait_wp m c l h h ks hks) $$ [Hf HO]
  · isplitr; · iexact Hlev
    isplitl [Hf]; · iexact Hf
    iexact HO
  iintro ⟨Hd, Hs, Ha, HO⟩
  iapply (loadDyv_wp c h (dys m c l h)) $$ Hd
  iintro %v %hv Hd
  simp only [Prog.lift, Prog.bind_op, Prog.bind_ret]
  iapply (wp_load_rect 𝒱₀ (c : Thread nD τ) none Set.univ (m := comm l.1) (r := rSubHalf l.2 h) (hl := View.loadsAt_vmem h_S1x512x512)
    (S := (subM l.1 0 l.2).view.set) (q := fullShare) (f := f) (subHalf_sub l h)) $$ [Hx]
  · iexact Hx
  iintro Hx
  iapply (wp_store 𝒱₀ (c : Thread nD τ) none Set.univ (m := comm l.1) (r := rSubHalf l.2 h) (w := prodBf w v) (Mk := Finset.univ)
    (hx := View.stores_vmem h_S1x512x512 ((comm_whole l.1).storeExact_slice rfl _ (rSubHalf_packed l.2 h)) (fun _ => rfl)) (hm := .inl rfl)
    (S := (subM l.1 0 l.2).view.set) (f := f) (subHalf_sub l h)) $$ [Hx]
  · iexact Hx
  iintro Hx
  iapply Hk
  isplitl [Hd Hs Ha]
  · unfold IdleDy Idle
    isplitl [Hd]; · iapply (dyvIs_any c h _) $$ Hd
    isplitl [Hs]; · iexact Hs
    iexact Ha
  isplitl [Hx]
  · iexists (prodBf w v)
    isplitr; · (ipureintro; exact prodBf_eq w v _ hv)
    iexact Hx
  iexact HO

/-- A lane's first product, in its first slot, up to the sending. -/
theorem initFill_wp (l : Lane) (off : Fin 2 → ℕ) (hoff : ∀ a, off a + S2048x512.size a ≤ S2048x2048.size a)
    (hj : off = ![0, 512 * (chunk c 0 l.1).val]) (dv : Dev nD) (ks : List Key) (hks : Above 0 ks) (k : PUnit → Body F α) :
    (iprop(levAts L lv ∗ Work m c ∗ subAny c l 0 ∗ Owe c ks) : sProp 𝕄)
      ⊢ iprop((iprop(Work m c ∗ subIs c l 0 (part m 0 c l) ∗ Owe c ks) -∗ WP c (sendSub l.1 l.2 0 1 dv >>= k) Q)
          -∗ WP c (initLane l.1 l.2 off hoff dv >>= k) Q) := by
  unfold initLane Work subAny
  simp only [bind_assoc]
  iintro ⟨#Hlev, ⟨H0, H1, HX⟩, ⟨%f, Hx⟩, HO⟩ Hk
  iapply (loadX_wp m c off hoff _ hj) $$ HX; iintro HX
  iapply (dyIn_wp m c l 0 0) $$ H0; iintro H0
  iapply (dyIn_wp m c l 1 1) $$ H1; iintro H1
  iapply (initHalf_wp m c l 0 _ f ks hks) $$ [H0 Hx HO]
  · isplitr; · iexact Hlev
    isplitl [H0]; · iexact H0
    isplitl [Hx]; · iexact Hx
    iexact HO
  iintro ⟨H0, ⟨%v0, %hv0, Hx⟩, HO⟩
  iapply (initHalf_wp m c l 1 _ _ ks hks) $$ [H1 Hx HO]
  · isplitr; · iexact Hlev
    isplitl [H1]; · iexact H1
    isplitl [Hx]; · iexact Hx
    iexact HO
  iintro ⟨H1, ⟨%v1, %hv1, Hx⟩, HO⟩
  iapply Hk
  isplitl [H0 H1 HX]
  · isplitl [H0]; · iexact H0
    isplitl [H1]; · iexact H1
    iexact HX
  isplitl [Hx]
  · unfold subIs
    iexists _
    isplitr
    swap
    · iexact Hx
    ipureintro
    refine (read_two (comm l.1).view ![(0 : Fin 2).val, 0, 1024 * l.2.val] ![0, 0, 1024 * l.2.val + 512 * (0 : Fin 2).val]
      ![0, 0, 1024 * l.2.val + 512 * (1 : Fin 2).val] (inbSub 0 l.2) (inbSubHalf l.2 0) (inbSubHalf l.2 1) rfl rfl rfl rfl f v0 v1).trans ?_
    rw [hv0, hv1]; rfl
  iexact HO

end Cert.KernelIdeal.Ring

end
-- ==== Proof.Hops.lean ====
module

public import proofs.«01_k».proof.Proof.Compute

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal.Gen

variable {F : FTy → Type} [FloatOps F]

local notation "𝕄" => MT nD τ sig ℕ (Elt F) ℕ UU ℕ

variable (m : (ℓ : Loc nD τ sig) → Buf (Elt F) ℓ)

variable (K : Dev nD × Role → ℕ)
variable {α : Type} {Q : α → sProp (MT nD τ sig ℕ (Elt F) ℕ UU ℕ)} (c : Dev nD)

/-! ## What every device knows -/

/-- Every cell's invariant, and that its first round has come. -/
def Rec : sProp 𝕄 :=
  bigSep Finset.univ fun p : Dev nD × Role => iprop(cellInv ER (ringRd m) (K p) (cell p.1 p.2) ∗ reached ER (cell p.1 p.2) 0)

instance Rec_persistent : BI.Persistent (Rec m K) := by unfold Rec; infer_instance

theorem Rec_inv (x : Dev nD) (k : Role) : Rec m K ⊢ cellInv ER (ringRd m) (K (x, k)) (cell x k) := by
  unfold Rec
  refine (bigSep_elim (Finset.mem_univ (x, k))).trans ?_
  show iprop(cellInv ER (ringRd m) (K (x, k)) (cell x k) ∗ reached ER (cell x k) 0) ⊢ _
  iintro ⟨H, -⟩
  iexact H

theorem Rec_reached (x : Dev nD) (k : Role) : Rec m K ⊢ reached ER (cell x k) 0 := by
  unfold Rec
  refine (bigSep_elim (Finset.mem_univ (x, k))).trans ?_
  show iprop(cellInv ER (ringRd m) (K (x, k)) (cell x k) ∗ reached ER (cell x k) 0) ⊢ _
  iintro ⟨-, H⟩
  iexact H

/-! ## Names of what a lane holds -/

/-- The place a device has come to on one of its cells, -/
abbrev pos (l : Lane) (p : Part) (r : ℕ) : sProp 𝕄 := atPos ER (cell c (some (l, p))) r ∅ 0
/-- the right to pay one of a device's cells, -/
abbrev tok (l : Lane) (p : Part) (r : ℕ) : sProp 𝕄 := dutyTok ER (cell c (some (l, p))) r false
/-- that a cell's round has come, -/
abbrev rch (l : Lane) (p : Part) (r : ℕ) : sProp 𝕄 := reached ER (cell c (some (l, p))) r
/-- and the credit a wait takes. -/
abbrev crd (l : Lane) (p : Part) (i : ℕ) : sProp 𝕄 := cred (tallyAt (cell c (some (l, p))) i (units (some (l, p))))

/-! ## The steps between devices -/

/-- Sending slot `a` to slot `b` of the next device. -/
theorem sendSub_wp (l : Lane) (a b : Fin 2) (dv : Dev nD) (hdv : dv = nxt l.1 c) (h ra rb : ℕ) (hb : slotOf h = b) (hh : hopOf b rb = h)
    (hra : ra < 2 - a.val) (hrb : rb < 1 + b.val) (ks : List Key) (k : PUnit → Body F α) :
    (iprop(Rec m K ∗ subIs c l a (part m h c l) ∗ subAny (nxt l.1 c) l b ∗ Owe c (Key.recv l h :: ks)
        ∗ tok c l (.send a) ra ∗ rch c l (.send a) ra ∗ tok (nxt l.1 c) l (.recv b) rb ∗ rch (nxt l.1 c) l (.recv b) rb
        ∗ rch c l .credit h) : sProp 𝕄)
      ⊢ iprop((iprop(crd c l (.send a) 0 ∗ Owe c ks) -∗ WP c (k ⟨⟩) Q) -∗ WP c (sendSub l.1 l.2 a b dv >>= k) Q) := by
  subst hdv
  simp only [sendSub, Prog.lift, Prog.bind_op, Prog.bind_ret]
  unfold subIs subAny Owe
  rw [due_cons]
  iintro ⟨#HR, ⟨%fs, %hfs, Hs⟩, ⟨%fd, Hd⟩, ⟨%W, HO⟩, Ht, #Hr, Ht', #Hr', #Hc⟩ Hk
  iapply (Rounds.wp_send_pointsTo_with 𝒱₀ ER (ringRd m) (c : Thread nD τ) none
      (c' := (nxt l.1 c : Thread nD τ)) (src := subM l.1 a l.2) (dst := subM l.1 b l.2) (sS := .dma (sendSem l.1 a l.2)) (sem := .dma (recvSem l.1 b l.2))
      (hsrc := subM_words l.1 a l.2) (hdst := subM_words l.1 b l.2) (hsem := ⟨⟨rfl, Or.inl rfl⟩, trivial⟩)
      (κ₁ := K (c, some (l, .send a))) (κ₂ := K (nxt l.1 c, some (l, .recv b))) (r₁ := ra) (r₂ := rb) (d₁ := false) (d₂ := false)
      (F := rch c l .credit h) (q := fullShare) (fs := fs) (fd := fd)
      (mem_lane m c ra l (.send a) hra) (mem_lane m (nxt l.1 c) rb l (.recv b) hrb) (Key.recv l h).lev 0 N (subM_credit l.1 b l.2)
      (amount_cell m c (some (l, .send a)) ra false) (amount_cell m (nxt l.1 c) (some (l, .recv b)) rb false)
      (due c ks) (by subst hb; rfl) (W := W)
      (by
        refine .trans ?_ (Entails.of_eq (payload_cell m c (some (l, .send a)) ra false).symm)
        show _ ⊢ subAny c l a
        unfold subAny
        iintro H; iexists fs; iexact H)
      (by
        refine .trans ?_ (Entails.of_eq (payload_cell m (nxt l.1 c) (some (l, .recv b)) rb false).symm)
        show _ ⊢ recvPay m (nxt l.1 c) l b rb
        unfold recvPay subIs
        rw [prv_nxt, hh, ← hfs]
        iintro ⟨H, Hc⟩
        isplitl [H]
        · iexists _; isplitr
          swap
          · iexact H
          ipureintro; exact View.read_write_univ ..
        iexact Hc)) $$ [Hs Hd HO Ht Ht']
  · isplitr; · iapply (Rec_inv m K c (some (l, .send a))); iexact HR
    isplitr; · iapply (Rec_inv m K (nxt l.1 c) (some (l, .recv b))); iexact HR
    isplitl [Hs]; · iexact Hs
    isplitl [Hd]
    · isplitl [Hd]; · iexact Hd
      iexact Hc
    isplitl [HO]; · iexact HO
    isplitl [Ht]; · iexact Ht
    isplitr; · iexact Hr
    isplitl [Ht']; · iexact Ht'
    iexact Hr'
  iintro ⟨Hcr, HO⟩
  iapply Hk
  isplitl [Hcr]; · iexact Hcr
  iexists W; iexact HO

/-- A wait at one of a lane's cells. -/
theorem lane_wait (l : Lane) (p : Part) (i r : ℕ) (hr : r < rounds (some (l, p))) (ks : List Key) (hks : Above i ks)
    {w : TpuEff nD τ sig (Elt F) Λ₀ .tc PUnit} {n : ℕ} (hn : n = units (some (l, p)))
    (hw : ∀ R : PUnit → sProp 𝕄, wpE (defs₀ (F := F)) 𝒱₀ (c : Thread nD τ) none Set.univ w R = waitSpec (c : Thread nD τ) Set.univ (semOf (some (l, p))) n R)
    (k : PUnit → Body F α) :
    (iprop(Rec m K ∗ levAts L lv ∗ crd c l p i ∗ Owe c ks ∗ pos c l p r) : sProp 𝕄)
      ⊢ iprop((iprop(Owe c ks ∗ pos c l p (r + 1) ∗ rch c l p (r + 1) ∗ pays m c r false (some (l, p))) -∗ WP c (k ⟨⟩) Q)
          -∗ WP c (.op w k) Q) := by
  subst hn
  unfold Owe
  iintro ⟨#HR, #Hlev, Hc, ⟨%W, HO⟩, Hp⟩ Hk
  iapply (Rounds.wp_wait_rest_token 𝒱₀ ER (ringRd m) (c : Thread nD τ) none (κ := K (c, some (l, p))) hw (Set.mem_univ _) i
      (O := due c ks) (W := W) (R := r) (m := 0) (T := ∅) (by rw [Nat.zero_add]; exact (expect_lane m c r l p hr).symm)) $$ [Hc HO Hp]
  · isplitr; · iapply (Rec_inv m K c (some (l, p))); iexact HR
    isplitl [Hc]; · iexact Hc
    isplitl [HO]; · iexact HO
    isplitr; · iapply (mayWait c _ hks); iexact Hlev
    iexact Hp
  iintro ⟨HO, Hp, Hr, Hpay⟩
  ihave Hpay := (Entails.of_eq (show bigSep ((ringRd m).duties ((c : Thread nD τ), semOf (some (l, p))) r \ ∅)
      (fun d => (ringRd m).payload ((c : Thread nD τ), semOf (some (l, p))) r d) = _ from rest_lane m c r l p hr)) $$ Hpay
  iapply Hk
  isplitl [HO]; · iexists _; iexact HO
  isplitl [Hp]; · iexact Hp
  isplitl [Hr]; · iexact Hr
  iexact Hpay

/-- Waiting for an arrival, -/
theorem waitRecv_wp (l : Lane) (a b : Fin 2) (i r : ℕ) (hr : r < 1 + b.val) (ks : List Key) (hks : Above i ks) (k : PUnit → Body F α) :
    (iprop(Rec m K ∗ levAts L lv ∗ crd c l (.recv b) i ∗ Owe c ks ∗ pos c l (.recv b) r) : sProp 𝕄)
      ⊢ iprop((iprop(Owe c ks ∗ pos c l (.recv b) (r + 1) ∗ rch c l (.recv b) (r + 1) ∗ recvPay m c l b r) -∗ WP c (k ⟨⟩) Q)
          -∗ WP c (waitRecv l.1 l.2 a b >>= k) Q) := by
  simp only [waitRecv, Prog.lift, Prog.bind_op, Prog.bind_ret]
  exact lane_wait m K c l (.recv b) i r hr ks hks (subM_credit l.1 b l.2) (wpE_waitDma2_eq 𝒱₀ (c : Thread nD τ) none Set.univ) k

/-- for a send to have left, -/
theorem waitSend_wp (l : Lane) (a b : Fin 2) (i r : ℕ) (hr : r < 2 - a.val) (ks : List Key) (hks : Above i ks) (k : PUnit → Body F α) :
    (iprop(Rec m K ∗ levAts L lv ∗ crd c l (.send a) i ∗ Owe c ks ∗ pos c l (.send a) r) : sProp 𝕄)
      ⊢ iprop((iprop(Owe c ks ∗ pos c l (.send a) (r + 1) ∗ rch c l (.send a) (r + 1) ∗ subAny c l a) -∗ WP c (k ⟨⟩) Q)
          -∗ WP c (waitSend l.1 l.2 a b >>= k) Q) := by
  simp only [waitSend, Prog.lift, Prog.bind_op, Prog.bind_ret]
  exact lane_wait m K c l (.send a) i r hr ks hks (subM_credit l.1 a l.2) (wpE_waitDma2_eq 𝒱₀ (c : Thread nD τ) none Set.univ) k

/-- and for a credit. -/
theorem waitCredit_wp (l : Lane) (i r : ℕ) (hr : r < 2) (ks : List Key) (hks : Above i ks) (k : PUnit → Body F α) :
    (iprop(Rec m K ∗ levAts L lv ∗ crd c l .credit i ∗ Owe c ks ∗ pos c l .credit r) : sProp 𝕄)
      ⊢ iprop((iprop(Owe c ks ∗ pos c l .credit (r + 1) ∗ rch c l .credit (r + 1) ∗ creditPay c l r) -∗ WP c (k ⟨⟩) Q)
          -∗ WP c (semWaitWord (creditSem l.1 l.2) 1#32 >>= k) Q) := by
  simp only [semWaitWord, Prog.lift, Prog.bind_op, Prog.bind_ret]
  exact lane_wait m K c l .credit i r hr ks hks (n := (1#32).toNat) rfl (wpE_semWait_eq 𝒱₀ (c : Thread nD τ) none Set.univ) k

/-- Handing a slot to the device before. -/
theorem signalCredit_wp (l : Lane) (up : Dev nD) (hup : up = prv l.1 c) (r : ℕ) (hr : r < 2) (ks : List Key) (k : PUnit → Body F α) :
    (iprop(Rec m K ∗ Owe c (Key.credit l r :: ks) ∗ tok (prv l.1 c) l .credit r ∗ creditPay (prv l.1 c) l r ∗ rch (prv l.1 c) l .credit r) : sProp 𝕄)
      ⊢ iprop((Owe c ks -∗ WP c (k ⟨⟩) Q) -∗ WP c (semSignalWord up (creditSem l.1 l.2) 1#32 >>= k) Q) := by
  subst hup
  simp only [semSignalWord, Prog.lift, Prog.bind_op, Prog.bind_ret]
  unfold Owe
  rw [due_cons]
  iintro ⟨#HR, ⟨%W, HO⟩, Ht, Hp, Hr⟩ Hk
  iapply (Rounds.wp_signal 𝒱₀ ER (ringRd m) (c : Thread nD τ) none (dst := (prv l.1 c : Thread nD τ)) (sem := creditSem l.1 l.2)
      (κ := K (prv l.1 c, some (l, .credit))) (r := r) (d := false)
      (mem_lane m (prv l.1 c) r l .credit hr) ((amount_cell m (prv l.1 c) (some (l, .credit)) r false).trans (show 1 = (1#32).toNat from rfl))
      (Key.credit l r).lev (due c ks) rfl (W := W)) $$ [HO Ht Hp Hr]
  · isplitr; · iapply (Rec_inv m K (prv l.1 c) (some (l, .credit))); iexact HR
    isplitl [HO]; · iexact HO
    isplitl [Ht]; · iexact Ht
    isplitl [Hp]
    · ihave Hp := (Entails.of_eq (show creditPay (prv l.1 c) l r = (ringRd m).payload ((prv l.1 c : Thread nD τ), SemLoc.reg (creditSem l.1 l.2)) r false
        from (payload_cell m (prv l.1 c) (some (l, .credit)) r false).symm)) $$ Hp
      iexact Hp
    iexact Hr
  iintro HO
  iapply Hk
  iexists W; iexact HO

/-! ## The barrier -/

theorem barPay_prv (d : Bool) (x : Dev nD) :
    (barPay (prv d x) d : sProp 𝕄) = bigSep Finset.univ fun s : Fin 4 => subAny x (d, s) 1 := by
  unfold barPay; rw [nxt_prv]

/-- One signal at the barrier. -/
theorem signalBar_wp (d : Bool) (tgt : Dev nD) (htgt : tgt = prv d c) (ks : List Key) (k : PUnit → Body F α) :
    (iprop(Rec m K ∗ Owe c (Key.bar d :: ks) ∗ dutyTok ER (barCell (prv d c)) 0 d ∗ bigSep Finset.univ fun s : Fin 4 => subAny c (d, s) 1) : sProp 𝕄)
      ⊢ iprop((Owe c ks -∗ WP c (k ⟨⟩) Q) -∗ WP c (semSignalWord tgt barSem 1#32 >>= k) Q) := by
  subst htgt
  simp only [semSignalWord, Prog.lift, Prog.bind_op, Prog.bind_ret]
  unfold Owe
  rw [due_cons]
  iintro ⟨#HR, ⟨%W, HO⟩, Ht, Hp⟩ Hk
  iapply (Rounds.wp_signal 𝒱₀ ER (ringRd m) (c : Thread nD τ) none (dst := (prv d c : Thread nD τ)) (sem := barSem)
      (κ := K (prv d c, none)) (r := 0) (d := d)
      (by show d ∈ (ringRd m).duties (cell (prv d c) none) 0; rw [duties_cell m (prv d c) none 0 Nat.one_pos]; exact Finset.mem_univ d)
      ((amount_cell m (prv d c) none 0 d).trans (show 1 = (1#32).toNat from rfl)) (Key.bar d).lev (due c ks) rfl (W := W)) $$ [HO Ht Hp]
  · isplitr; · iapply (Rec_inv m K (prv d c) none); iexact HR
    isplitl [HO]; · iexact HO
    isplitl [Ht]; · iexact Ht
    isplitl [Hp]
    · ihave Hp := (Entails.of_eq (show _ = (ringRd m).payload ((prv d c : Thread nD τ), SemLoc.reg barSem) 0 d
        from ((payload_cell m (prv d c) none 0 d).trans (barPay_prv d c)).symm)) $$ Hp
      iexact Hp
    iapply (Rec_reached m K (prv d c) none); iexact HR
  iintro HO
  iapply Hk
  iexists W; iexact HO

/-- The barrier: the first slots go to the devices before, and those of the devices after come. -/
theorem barrier_wp (ks : List Key) (hks : Above 0 ks) (k : PUnit → Body F α) :
    (iprop(Rec m K ∗ levAts L lv ∗ Owe c (Key.bar false :: Key.bar true :: ks)
        ∗ dutyTok ER (barCell (prv false c)) 0 false ∗ dutyTok ER (barCell (prv true c)) 0 true
        ∗ (bigSep Finset.univ fun s : Fin 4 => subAny c (false, s) 1) ∗ (bigSep Finset.univ fun s : Fin 4 => subAny c (true, s) 1)
        ∗ cred (tallyAt (barCell c) 0 2) ∗ atPos ER (barCell c) 0 ∅ 0) : sProp 𝕄)
      ⊢ iprop((iprop(Owe c ks ∗ atPos ER (barCell c) 1 ∅ 0
            ∗ (bigSep Finset.univ fun s : Fin 4 => subAny (nxt false c) (false, s) 1)
            ∗ (bigSep Finset.univ fun s : Fin 4 => subAny (nxt true c) (true, s) 1)) -∗ WP c (k ⟨⟩) Q)
          -∗ WP c (barrier ⟨k0_dev1 c, k0_dev1_lt c⟩ ⟨k0_dev2 c, k0_dev2_lt c⟩ >>= k) Q) := by
  unfold barrier
  simp only [bind_assoc]
  iintro ⟨#HR, #Hlev, HO, Ht, Ht', Hp, Hp', Hc, Hat⟩ Hk
  iapply (signalBar_wp m K c false _ (left_eq c) (Key.bar true :: ks)) $$ [HO Ht Hp]
  · isplitr; · iexact HR
    isplitl [HO]; · iexact HO
    isplitl [Ht]; · iexact Ht
    iexact Hp
  iintro HO
  iapply (signalBar_wp m K c true _ (right_eq c) ks) $$ [HO Ht' Hp']
  · isplitr; · iexact HR
    isplitl [HO]; · iexact HO
    isplitl [Ht']; · iexact Ht'
    iexact Hp'
  iintro HO
  simp only [semWaitWord, Prog.lift, Prog.bind_op, Prog.bind_ret]
  unfold Owe
  icases HO with ⟨%W, HO⟩
  iapply (Rounds.wp_wait_rest_token 𝒱₀ ER (ringRd m) (c : Thread nD τ) none (κ := K (c, none))
      (wpE_semWait_eq 𝒱₀ (c : Thread nD τ) none Set.univ) (Set.mem_univ _) 0
      (O := due c ks) (W := W) (R := 0) (m := 0) (T := ∅)
      (by rw [Nat.zero_add]; exact ((expect_cell m c none 0 Nat.one_pos).trans (by decide)).symm)) $$ [Hc HO Hat]
  · isplitr; · iapply (Rec_inv m K c none); iexact HR
    isplitl [Hc]; · iexact Hc
    isplitl [HO]; · iexact HO
    isplitr; · iapply (mayWait c _ hks); iexact Hlev
    iexact Hat
  iintro ⟨HO, Hat, -, Hpay⟩
  ihave Hpay := (Entails.of_eq (show bigSep ((ringRd m).duties ((c : Thread nD τ), SemLoc.reg barSem) 0 \ ∅)
      (fun d => (ringRd m).payload ((c : Thread nD τ), SemLoc.reg barSem) 0 d) = _ from rest_bar m c)) $$ Hpay
  unfold barPay
  icases Hpay with ⟨Hp, Hp'⟩
  iapply Hk
  isplitl [HO]; · iexists _; iexact HO
  isplitl [Hat]; · iexact Hat
  isplitl [Hp]; · iexact Hp
  iexact Hp'

/-! ## A lane's first product -/

theorem initLane_wp (l : Lane) (off : Fin 2 → ℕ) (hoff : ∀ a, off a + S2048x512.size a ≤ S2048x2048.size a)
    (hj : off = ![0, 512 * (chunk c 0 l.1).val]) (dv : Dev nD) (hdv : dv = nxt l.1 c) (ks : List Key)
    (hks : Above 0 (Key.recv l 0 :: ks)) (k : PUnit → Body F α) :
    (iprop(Rec m K ∗ levAts L lv ∗ Work m c ∗ Owe c (Key.recv l 0 :: ks) ∗ subAny c l 0 ∗ subAny (nxt l.1 c) l 1
        ∗ tok c l (.send 0) 0 ∗ tok (nxt l.1 c) l (.recv 1) 0) : sProp 𝕄)
      ⊢ iprop((iprop(Work m c ∗ Owe c ks ∗ crd c l (.send 0) 0) -∗ WP c (k ⟨⟩) Q)
          -∗ WP c (initLane l.1 l.2 off hoff dv >>= k) Q) := by
  iintro ⟨#HR, #Hlev, HW, HO, Hs, Hd, Ht, Ht'⟩ Hk
  iapply (initFill_wp m c l off hoff hj dv _ hks) $$ [HW Hs HO]
  · isplitr; · iexact Hlev
    isplitl [HW]; · iexact HW
    isplitl [Hs]; · iexact Hs
    iexact HO
  iintro ⟨HW, Hs, HO⟩
  iapply (sendSub_wp m K c l 0 1 dv hdv 0 0 0 rfl rfl (by decide) (by decide) ks) $$ [Hs Hd HO Ht Ht']
  · isplitr; · iexact HR
    isplitl [Hs]; · iexact Hs
    isplitl [Hd]; · iexact Hd
    isplitl [HO]; · iexact HO
    isplitl [Ht]; · iexact Ht
    isplitr; · iapply (Rec_reached m K c (some (l, .send 0))); iexact HR
    isplitl [Ht']; · iexact Ht'
    isplitr; · iapply (Rec_reached m K (nxt l.1 c) (some (l, .recv 1))); iexact HR
    iapply (Rec_reached m K c (some (l, .credit))); iexact HR
  iintro ⟨Hc, HO⟩
  iapply Hk
  isplitl [HW]; · iexact HW
  isplitl [HO]; · iexact HO
  iexact Hc

/-! ## A hop -/

/-- Where a lane stands: slot `a` on its way, slot `b` to be filled. -/
def Core (l : Lane) (a b : Fin 2) (s t k : ℕ) : sProp 𝕄 :=
  iprop(pos c l (.send a) s ∗ pos c l (.send b) t ∗ pos c l (.recv b) s ∗ pos c l (.recv a) t ∗ pos c l .credit k
    ∗ rch c l (.send b) t ∗ rch c l (.recv a) t ∗ crd c l (.send a) 0)

/-- What hop `h` uses up. -/
def HopRes (l : Lane) (a b : Fin 2) (h : ℕ) : sProp 𝕄 :=
  iprop(tok (prv l.1 c) l .credit h ∗ tok c l (.send b) h ∗ tok (nxt l.1 c) l (.recv a) h
    ∗ crd c l (.recv b) (16 * h + 1) ∗ crd c l .credit (16 * h + 2 + laneNo l))

theorem sub_read (l : Lane) (b : Fin 2) : ((comm l.1).access (rSub b l.2)).set = (subM l.1 b l.2).view.set := (View.set_reshape _ _).symm

/-- A slot read by itself is what is read at its rectangle. -/
theorem subM_read (l : Lane) (b : Fin 2) (g : (comm l.1).view.ty.Contents (Elt F)) :
    (subM l.1 b l.2).view.read (Elt F) g
      = shapeCast S512x1024 (((comm l.1).access (rSub b l.2)).read (Elt F) g) shapeCasts_S1x512x1024_S512x1024 := rfl

theorem subM_write (l : Lane) (b : Fin 2) (g : (comm l.1).view.ty.Contents (Elt F)) (w : S1x512x1024.Idx → Elt F .bf16) :
    (subM l.1 b l.2).view.read (Elt F) (((comm l.1).access (rSub b l.2)).write (Elt F) g w Finset.univ)
      = shapeCast S512x1024 w shapeCasts_S1x512x1024_S512x1024 := by
  rw [subM_read]
  exact congrArg (fun g => shapeCast S512x1024 g shapeCasts_S1x512x1024_S512x1024) (View.read_write_univ (v := (comm l.1).access (rSub b l.2)) g w)

theorem sum_read (l : Lane) (h : ℕ) (b : Fin 2) (f : (comm l.1).view.ty.Contents (Elt F)) (w : Vec F S1x512x1024 .f32)
    (hf : (subM l.1 b l.2).view.read (Elt F) f = part m h (prv l.1 c) l)
    (hw : shapeCast S512x1024 w shapeCasts_S1x512x1024_S512x1024 = own m c (h + 1) l) :
    (subM l.1 b l.2).view.read (Elt F) (((comm l.1).access (rSub b l.2)).write (Elt F) f
        (addBf (((comm l.1).access (rSub b l.2)).read (Elt F) f) w) Finset.univ) = part m (h + 1) c l := by
  rw [subM_write]
  exact addBf_eq _ _ _ _ ((subM_read l b f).symm.trans hf) hw

/-- Reading a slot. -/
theorem loadSub_wp (l : Lane) (b : Fin 2) (f : Buf (Elt F) ((subM l.1 b l.2).view.loc (c : Thread nD τ)))
    (k : Vec F S1x512x1024 .bf16 → Body F α) :
    (((subM l.1 b l.2).view.loc (c : Thread nD τ) ↦[(subM l.1 b l.2).view.set]{fullShare} f) : sProp 𝕄)
      ⊢ iprop((((subM l.1 b l.2).view.loc (c : Thread nD τ) ↦[(subM l.1 b l.2).view.set]{fullShare} f)
          -∗ WP c (k (((comm l.1).access (rSub b l.2)).read (Elt F) f)) Q) -∗ WP c (loadSub l.1 l.2 b >>= k) Q) := by
  simp only [loadSub, Prog.lift, Prog.bind_op, Prog.bind_ret]
  exact wp_load_rect 𝒱₀ (c : Thread nD τ) none Set.univ (m := comm l.1) (r := rSub b l.2) (hl := View.loadsAt_vmem h_S1x512x1024)
    (S := (subM l.1 b l.2).view.set) (q := fullShare) (f := f) (sub_read l b).subset

/-- Reading an accumulator. -/
theorem loadAcc_wp (d : Bool) (y : FVec F S512x1024 .f32) (k : Vec F S1x512x1024 .f32 → Body F α) :
    (AccIs c d y : sProp 𝕄)
      ⊢ iprop((∀ w, ⌜shapeCast S512x1024 w shapeCasts_S1x512x1024_S512x1024 = y⌝ -∗ AccAny c -∗ WP c (k w) Q) -∗ WP c (loadAcc d >>= k) Q) := by
  simp only [loadAcc, Prog.lift, Prog.bind_op, Prog.bind_ret]
  unfold AccIs AccAny
  iintro ⟨%f, %hf, H⟩ Hk
  iapply (wp_load_rect 𝒱₀ (c : Thread nD τ) none Set.univ (m := acc) (r := rAcc (dix d)) (hl := View.loadsAt_vmem h_S1x512x1024)
    (S := Finset.univ) (q := fullShare) (f := f) (Finset.subset_univ _)) $$ [H]
  · iexact H
  iintro H
  iapply Hk $$ [] [H]
  · ipureintro; exact hf
  iexists f; iexact H

/-- Hop `h` of a lane. -/
theorem hopLane_wp (l : Lane) (a b : Fin 2) (h : ℕ) (hh : h < 2) (hsa : 0 < 2 - a.val) (hrb : 0 < 1 + b.val) (hsb : h < 2 - b.val)
    (hra : h < 1 + a.val) (hb0 : hopOf b 0 = h) (hah : hopOf a h = h + 1) (hsl : slotOf (h + 1) = a)
    (hcp : ∀ u : Dev nD, (creditPay u l h : sProp 𝕄) = iprop(subAny (nxt l.1 u) l a ∗ rch (nxt l.1 u) l (.recv a) h))
    (off : Fin 2 → ℕ) (hoff : ∀ a, off a + S2048x512.size a ≤ S2048x2048.size a)
    (hj : off = ![0, 512 * (chunk c (h + 1) l.1).val]) (up dv : Dev nD) (hup : up = prv l.1 c) (hdv : dv = nxt l.1 c) (ks : List Key)
    (hks : Above (16 * h + 1) (Key.credit l h :: Key.recv l (h + 1) :: ks)) (hkc : Above (16 * h + 2 + laneNo l) (Key.recv l (h + 1) :: ks))
    (k : PUnit → Body F α) :
    (iprop(Rec m K ∗ levAts L lv ∗ Work m c ∗ AccAny c ∗ Owe c (Key.credit l h :: Key.recv l (h + 1) :: ks)
        ∗ Core c l a b 0 h h ∗ HopRes c l a b h) : sProp 𝕄)
      ⊢ iprop((iprop(Work m c ∗ AccAny c ∗ Owe c ks ∗ Core c l b a h 1 (h + 1)) -∗ WP c (k ⟨⟩) Q)
          -∗ WP c (hopLane l.1 l.2 a b off hoff up dv >>= k) Q) := by
  unfold hopLane Core HopRes
  simp only [bind_assoc]
  iintro ⟨#HR, #Hlev, HW, HA, HO, ⟨Psa, Psb, Prb, Pra, Pc, #Rsb, #Rra, Csa⟩, ⟨Tc, Tsb, Tra, Crb, Cc⟩⟩ Hk
  iapply (accLane_wp m c l (h + 1) off hoff hj _ (hks.mono (Nat.zero_le _))) $$ [HW HA HO]
  · isplitr; · iexact Hlev
    isplitl [HW]; · iexact HW
    isplitl [HA]; · iexact HA
    iexact HO
  iintro ⟨HW, HA, HO⟩
  -- the arrival
  iapply (waitRecv_wp m K c l a b (16 * h + 1) 0 hrb _ hks) $$ [Crb HO Prb]
  · isplitr; · iexact HR
    isplitr; · iexact Hlev
    isplitl [Crb]; · iexact Crb
    isplitl [HO]; · iexact HO
    iexact Prb
  iintro ⟨HO, Prb, #Rrb, Hpay⟩
  unfold recvPay
  rw [hb0]
  icases Hpay with ⟨Hsub, #Rcp⟩
  -- the send before has left: its slot is free
  iapply (waitSend_wp m K c l a b 0 0 hsa _ (hks.mono (Nat.zero_le _))) $$ [Csa HO Psa]
  · isplitr; · iexact HR
    isplitr; · iexact Hlev
    isplitl [Csa]; · iexact Csa
    isplitl [HO]; · iexact HO
    iexact Psa
  iintro ⟨HO, Psa, #Rsa, Hfree⟩
  -- it is handed to the device before
  iapply (signalCredit_wp m K c l up hup h hh _) $$ [HO Tc Hfree]
  · isplitr; · iexact HR
    isplitl [HO]; · iexact HO
    isplitl [Tc]; · iexact Tc
    isplitl [Hfree]
    · rw [hcp, nxt_prv]
      isplitl [Hfree]; · iexact Hfree
      iexact Rra
    iexact Rcp
  iintro HO
  -- the sum, in place
  unfold subIs
  icases Hsub with ⟨%f, %hf, Hsub⟩
  iapply (loadSub_wp c l b f) $$ Hsub; iintro Hsub
  iapply (loadAcc_wp c l.1 _) $$ HA
  iintro %w %hw HA
  iapply (loadSub_wp c l b f) $$ Hsub; iintro Hsub
  simp only [Prog.lift, Prog.bind_op, Prog.bind_ret]
  iapply (wp_store 𝒱₀ (c : Thread nD τ) none Set.univ (m := comm l.1) (r := rSub b l.2)
    (w := addBf (((comm l.1).access (rSub b l.2)).read (Elt F) f) w) (Mk := Finset.univ)
    (hx := View.stores_vmem h_S1x512x1024 ((comm_whole l.1).storeExact_slice rfl _ (rSub_packed b l.2)) (fun _ => rfl)) (hm := .inl rfl)
    (S := (subM l.1 b l.2).view.set) (f := f) (sub_read l b).subset) $$ [Hsub]
  · iexact Hsub
  iintro Hsub
  -- the credit of the device after
  iapply (waitCredit_wp m K c l (16 * h + 2 + laneNo l) h hh _ hkc) $$ [Cc HO Pc]
  · isplitr; · iexact HR
    isplitr; · iexact Hlev
    isplitl [Cc]; · iexact Cc
    isplitl [HO]; · iexact HO
    iexact Pc
  iintro ⟨HO, Pc, #Rc, Hcp⟩
  ihave Hcp := (Entails.of_eq (hcp c)) $$ Hcp
  icases Hcp with ⟨Hd, #Rra'⟩
  iapply (sendSub_wp m K c l b a dv hdv (h + 1) h h hsl hah hsb hra ks) $$ [Hsub Hd HO Tsb Tra]
  · isplitr; · iexact HR
    isplitl [Hsub]
    · unfold subIs
      iexists (((comm l.1).access (rSub b l.2)).write (Elt F) f
        (addBf (((comm l.1).access (rSub b l.2)).read (Elt F) f) w) Finset.univ)
      isplitr
      · ipureintro; exact sum_read m c l h b f w hf hw
      iexact Hsub
    isplitl [Hd]; · iexact Hd
    isplitl [HO]; · iexact HO
    isplitl [Tsb]; · iexact Tsb
    isplitr; · iexact Rsb
    isplitl [Tra]; · iexact Tra
    isplitr; · iexact Rra'
    iexact Rc
  iintro ⟨Csb, HO⟩
  iapply Hk
  isplitl [HW]; · iexact HW
  isplitl [HA]; · iexact HA
  isplitl [HO]; · iexact HO
  isplitl [Psb]; · iexact Psb
  isplitl [Psa]; · iexact Psa
  isplitl [Pra]; · iexact Pra
  isplitl [Prb]; · iexact Prb
  isplitl [Pc]; · iexact Pc
  isplitr; · iexact Rsa
  isplitr; · iexact Rrb
  iexact Csb

end Cert.KernelIdeal.Ring

end
-- ==== Proof.Last.lean ====
module

public import proofs.«01_k».proof.Proof.Hops

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal.Gen

variable {F : FTy → Type} [FloatOps F]

local notation "𝕄" => MT nD τ sig ℕ (Elt F) ℕ UU ℕ

variable (m : (ℓ : Loc nD τ sig) → Buf (Elt F) ℓ)

variable (K : Dev nD × Role → ℕ)
variable {α : Type} {Q : α → sProp (MT nD τ sig ℕ (Elt F) ℕ UU ℕ)} (c : Dev nD)

/-! ## The way out -/

/-- A direction's half of the output staging buffer, holding something; -/
def StageAny (d : Bool) : sProp 𝕄 :=
  iprop(∃ f, (stageM (dix d)).view.loc (c : Thread nD τ) ↦[(stageM (dix d)).view.set]{fullShare} f)

/-- holding `w`. -/
def StageIs (d : Bool) (w : FVec F S512x1024 .f32) : sProp 𝕄 :=
  iprop(∃ f, ⌜(stageM (dix d)).view.read (Elt F) f = w⌝
    ∗ (stageM (dix d)).view.loc (c : Thread nD τ) ↦[(stageM (dix d)).view.set]{fullShare} f)

/-- A lane's columns of the output, not yet written, with the semaphore of their copy; -/
def OutAny (l : Lane) : sProp 𝕄 :=
  iprop((∃ f, (outM l.1 l.2).view.loc (c : Thread nD τ) ↦[(outM l.1 l.2).view.set]{fullShare} f)
    ∗ semVal ((c : Thread nD τ), SemLoc.dma (outSem (dix l.1) l.2)) 0)

/-- holding what is to be written. -/
def OutIs (l : Lane) : sProp 𝕄 :=
  iprop(∃ f, ⌜(outM l.1 l.2).view.read (Elt F) f = total m c l⌝
    ∗ (outM l.1 l.2).view.loc (c : Thread nD τ) ↦[(outM l.1 l.2).view.set]{fullShare} f)

/-- A lane whose copy is done. -/
def OutFin (l : Lane) : sProp 𝕄 := iprop(OutIs m c l ∗ semVal ((c : Thread nD τ), SemLoc.dma (outSem (dix l.1) l.2)) 0)

/-- The credit of a copy out. -/
def NO : ℕ := (outM false 0).view.dmaCredit
theorem outM_credit (l : Lane) : (outM l.1 l.2).view.dmaCredit = NO := rfl
theorem NO_pos : 0 < NO := View.dmaCredit_pos _ (by decide)

/-- A lane's copy out, on its way. -/
def OutFlight (l : Lane) : sProp 𝕄 :=
  Flight EC (c : Thread nD τ) (SemLoc.dma (outSem (dix l.1) l.2)) 0 NO iprop(OutIs m c l ∗ StageAny c l.1)

theorem outStart_wp (l : Lane) (k : PUnit → Body F α) :
    (iprop(StageIs c l.1 (total m c l) ∗ OutAny c l) : sProp 𝕄)
      ⊢ iprop((OutFlight m c l -∗ WP c (k ⟨⟩) Q) -∗ WP c (outStart l.1 l.2 >>= k) Q) := by
  simp only [outStart, Prog.lift, Prog.bind_op, Prog.bind_ret]
  unfold StageIs OutAny OutFlight
  iintro ⟨⟨%fs, %hfs, Hs⟩, ⟨%fd, Hd⟩, Hv⟩ Hk
  iapply (wp_dmaLocal EC 𝒱₀ (c : Thread nD τ) none (src := stageM (dix l.1)) (dst := outM l.1 l.2) (sm := .dma (outSem (dix l.1) l.2)) 0 NO
      (show (outM l.1 l.2).view.dmaCredit = NO from outM_credit l) NO_pos (Finset.Subset.refl _)) $$ [Hs Hd Hv]
  · isplitl [Hs]; · iexact Hs
    isplitl [Hd]; · iexact Hd
    iexact Hv
  iintro Hf
  iapply Hk
  iapply (Flight_mono EC (c : Thread nD τ) _) $$ Hf
  unfold OutIs StageAny
  iintro ⟨Hd, Hs⟩
  isplitl [Hd]
  · iexists ((outM l.1 l.2).view.write (Elt F) fd ((stageM (dix l.1)).view.read (Elt F) fs) Finset.univ)
    isplitr
    · ipureintro; exact (View.read_write_univ ..).trans hfs
    iexact Hd
  iexists fs; iexact Hs

theorem outWait_wp (l : Lane) (ks : List Key) (hks : Above 0 ks) (k : PUnit → Body F α) :
    (iprop(levAts L lv ∗ OutFlight m c l ∗ Owe c ks) : sProp 𝕄)
      ⊢ iprop((iprop(StageAny c l.1 ∗ OutFin m c l ∗ Owe c ks) -∗ WP c (k ⟨⟩) Q) -∗ WP c (outWait l.1 l.2 >>= k) Q) := by
  simp only [outWait, Prog.lift, Prog.bind_op, Prog.bind_ret]
  unfold OutFlight OutFin Owe
  iintro ⟨#Hlev, Hf, ⟨%W, HO⟩⟩ Hk
  iapply (wp_waitLocalO EC 𝒱₀ (c : Thread nD τ) none (srcw := stageM (dix l.1)) (dstw := outM l.1 l.2)
      (hsrc := (View.wordExact_bits rfl).reshape _ _) (hdst := View.wordExact_bits rfl) 0 (outM_credit l)) $$ [Hf HO]
  · isplitl [Hf]; · iexact Hf
    isplitl [HO]; · iexact HO
    iapply (mayWait c _ hks); iexact Hlev
  iintro ⟨⟨Hd, Hs⟩, Hv, HO⟩
  iapply Hk
  isplitl [Hs]; · iexact Hs
  isplitl [Hd Hv]
  · isplitl [Hd]; · iexact Hd
    iexact Hv
  iexists _; iexact HO

/-- A direction's way out after `n` lanes: free, or with the last lane's copy on its way. -/
def Way (d : Bool) : ℕ → sProp 𝕄
  | 0 => StageAny c d
  | 1 => OutFlight m c (d, 0)
  | 2 => OutFlight m c (d, 1)
  | 3 => OutFlight m c (d, 2)
  | _ => OutFlight m c (d, 3)

/-- What is done once a lane has taken the way out: the lane before it in its direction. -/
def Before (d : Bool) : Fin 4 → sProp 𝕄
  | 0 => iprop(emp)
  | 1 => OutFin m c (d, 0)
  | 2 => OutFin m c (d, 1)
  | 3 => OutFin m c (d, 2)

theorem outPrev_wp (l : Lane) (ks : List Key) (hks : Above 0 ks) (k : PUnit → Body F α) :
    (iprop(levAts L lv ∗ Way m c l.1 l.2.val ∗ Owe c ks) : sProp 𝕄)
      ⊢ iprop((iprop(StageAny c l.1 ∗ Before m c l.1 l.2 ∗ Owe c ks) -∗ WP c (k ⟨⟩) Q) -∗ WP c (outPrev l.1 l.2 >>= k) Q) := by
  obtain ⟨d, s⟩ := l
  match s with
  | 0 =>
    show iprop(levAts L lv ∗ StageAny c d ∗ Owe c ks) ⊢ iprop((iprop(StageAny c d ∗ emp ∗ Owe c ks) -∗ WP c (k ⟨⟩) Q) -∗ WP c (k ⟨⟩) Q)
    iintro ⟨-, Hs, HO⟩ Hk
    iapply Hk
    isplitl [Hs]; · iexact Hs
    isplitr; · iempintro
    iexact HO
  | 1 => exact outWait_wp m c (d, 0) ks hks k
  | 2 => exact outWait_wp m c (d, 1) ks hks k
  | 3 => exact outWait_wp m c (d, 2) ks hks k

/-! ## A lane's last hop -/

theorem stageM_read (d : Bool) (g : stage.view.ty.Contents (Elt F)) :
    (stageM (dix d)).view.read (Elt F) g
      = shapeCast S512x1024 ((stage.access (rAcc (dix d))).read (Elt F) g) shapeCasts_S1x512x1024_S512x1024 := rfl

theorem stageM_write (d : Bool) (g : stage.view.ty.Contents (Elt F)) (w : S1x512x1024.Idx → Elt F .f32) :
    (stageM (dix d)).view.read (Elt F) ((stage.access (rAcc (dix d))).write (Elt F) g w Finset.univ)
      = shapeCast S512x1024 w shapeCasts_S1x512x1024_S512x1024 := by
  rw [stageM_read]
  exact congrArg (fun g => shapeCast S512x1024 g shapeCasts_S1x512x1024_S512x1024)
    (View.read_write_univ (v := stage.access (rAcc (dix d))) g w)

theorem total_read (l : Lane) (f : (comm l.1).view.ty.Contents (Elt F)) (g : stage.view.ty.Contents (Elt F)) (w : Vec F S1x512x1024 .f32)
    (hf : (subM l.1 1 l.2).view.read (Elt F) f = part m 2 (prv l.1 c) l)
    (hw : shapeCast S512x1024 w shapeCasts_S1x512x1024_S512x1024 = own m c 3 l) :
    (stageM (dix l.1)).view.read (Elt F) ((stage.access (rAcc (dix l.1))).write (Elt F) g
        (addF (((comm l.1).access (rSub 1 l.2)).read (Elt F) f) w) Finset.univ) = total m c l := by
  rw [stageM_write]
  exact addF_eq _ _ _ _ ((subM_read l 1 f).symm.trans hf) hw

theorem stage_set (d : Bool) : (stage.access (rAcc (dix d))).set = (stageM (dix d)).view.set := (View.set_reshape _ _).symm

theorem bigSep_parts (Φ : Part → sProp 𝕄) :
    bigSep Finset.univ Φ = iprop(Φ (.send 0) ∗ Φ (.send 1) ∗ Φ (.recv 0) ∗ Φ (.recv 1) ∗ Φ .credit) := by
  rw [bigSep_univ_eq_bigSepL [Part.send 0, Part.send 1, Part.recv 0, Part.recv 1, Part.credit] (by decide) (by decide)]
  rfl

/-- A lane at its end: every cell after its last round, both slots free. -/
def LaneEnd (l : Lane) : sProp 𝕄 :=
  iprop((bigSep Finset.univ fun p : Part => pos c l p (rounds (some (l, p)))) ∗ subAny c l 0 ∗ subAny c l 1)

theorem lastLane_wp (l : Lane) (off : Fin 2 → ℕ) (hoff : ∀ a, off a + S2048x512.size a ≤ S2048x2048.size a)
    (hj : off = ![0, 512 * (chunk c 3 l.1).val]) (k : PUnit → Body F α) :
    (iprop(Rec m K ∗ levAts L lv ∗ Work m c ∗ AccAny c ∗ Owe c [] ∗ Way m c l.1 l.2.val
        ∗ Core c l 0 1 1 1 2 ∗ crd c l (.recv 1) 33 ∗ OutAny c l) : sProp 𝕄)
      ⊢ iprop((iprop(Work m c ∗ AccAny c ∗ Owe c [] ∗ OutFlight m c l ∗ LaneEnd c l ∗ Before m c l.1 l.2) -∗ WP c (k ⟨⟩) Q)
          -∗ WP c (lastLane l.1 l.2 off hoff >>= k) Q) := by
  unfold lastLane Core
  simp only [bind_assoc]
  iintro ⟨#HR, #Hlev, HW, HA, HO, Hway, ⟨Ps0, Ps1, Pr1, Pr0, Pc, -, -, Cs0⟩, Cr1, Hout⟩ Hk
  iapply (accLane_wp m c l 3 off hoff hj [] (by decide)) $$ [HW HA HO]
  · isplitr; · iexact Hlev
    isplitl [HW]; · iexact HW
    isplitl [HA]; · iexact HA
    iexact HO
  iintro ⟨HW, HA, HO⟩
  iapply (waitRecv_wp m K c l 0 1 33 1 (by decide) [] (by decide)) $$ [Cr1 HO Pr1]
  · isplitr; · iexact HR
    isplitr; · iexact Hlev
    isplitl [Cr1]; · iexact Cr1
    isplitl [HO]; · iexact HO
    iexact Pr1
  iintro ⟨HO, Pr1, -, Hpay⟩
  unfold recvPay
  icases Hpay with ⟨Hsub, -⟩
  iapply (outPrev_wp m c l [] (by decide)) $$ [Hway HO]
  · isplitr; · iexact Hlev
    isplitl [Hway]; · iexact Hway
    iexact HO
  iintro ⟨Hst, Hbef, HO⟩
  unfold subIs StageAny
  icases Hsub with ⟨%f, %hf, Hsub⟩
  icases Hst with ⟨%g, Hst⟩
  iapply (loadSub_wp c l 1 f) $$ Hsub; iintro Hsub
  iapply (loadAcc_wp c l.1 _) $$ HA
  iintro %w %hw HA
  simp only [Prog.lift, Prog.bind_op, Prog.bind_ret]
  iapply (wp_load_rect 𝒱₀ (c : Thread nD τ) none Set.univ (m := stage) (r := rAcc (dix l.1)) (hl := View.loadsAt_vmem h_S1x512x1024)
    (S := (stageM (dix l.1)).view.set) (q := fullShare) (f := g) (stage_set l.1).subset) $$ [Hst]
  · iexact Hst
  iintro Hst
  iapply (wp_store 𝒱₀ (c : Thread nD τ) none Set.univ (m := stage) (r := rAcc (dix l.1))
    (w := addF (((comm l.1).access (rSub 1 l.2)).read (Elt F) f) w) (Mk := Finset.univ)
    (hx := View.stores_vmem_bits_univ h_S1x512x1024 rfl) (hm := .inl rfl)
    (S := (stageM (dix l.1)).view.set) (f := g) (stage_set l.1).subset) $$ [Hst]
  · iexact Hst
  iintro Hst
  iapply (waitSend_wp m K c l 0 1 0 1 (by decide) [] (by decide)) $$ [Cs0 HO Ps0]
  · isplitr; · iexact HR
    isplitr; · iexact Hlev
    isplitl [Cs0]; · iexact Cs0
    isplitl [HO]; · iexact HO
    iexact Ps0
  iintro ⟨HO, Ps0, -, Hfree⟩
  iapply (outStart_wp m c l) $$ [Hst Hout]
  · isplitl [Hst]
    · unfold StageIs
      iexists ((stage.access (rAcc (dix l.1))).write (Elt F) g (addF (((comm l.1).access (rSub 1 l.2)).read (Elt F) f) w) Finset.univ)
      isplitr
      · ipureintro; exact total_read m c l f g w hf hw
      iexact Hst
    iexact Hout
  iintro Hfl
  iapply Hk
  isplitl [HW]; · iexact HW
  isplitl [HA]; · iexact HA
  isplitl [HO]; · iexact HO
  isplitl [Hfl]; · iexact Hfl
  isplitl [Ps0 Ps1 Pr1 Pr0 Pc Hfree Hsub]
  · unfold LaneEnd
    isplitl [Ps0 Ps1 Pr1 Pr0 Pc]
    · rw [bigSep_parts]
      isplitl [Ps0]; · iexact Ps0
      isplitl [Ps1]; · iexact Ps1
      isplitl [Pr0]; · iexact Pr0
      isplitl [Pr1]; · iexact Pr1
      iexact Pc
    isplitl [Hfree]; · iexact Hfree
    unfold subAny; iexists f; iexact Hsub
  iexact Hbef

end Cert.KernelIdeal.Ring

end
-- ==== Proof.Body.lean ====
module

public import proofs.«01_k».proof.Proof.Last
public import Idealize.ShloMosaic.Lib.Pipeline.BigSepL

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal.Gen

variable {F : FTy → Type} [FloatOps F]

local notation "𝕄" => MT nD τ sig ℕ (Elt F) ℕ UU ℕ

variable (m : (ℓ : Loc nD τ sig) → Buf (Elt F) ℓ)

variable (K : Dev nD × Role → ℕ) (c : Dev nD)

/-! ## Lane after lane -/

/-- A phase that does the same for each lane in turn: with what holds before lane `n` and what a lane needs, one gets what holds after the
last lane and what each lane yields. -/
theorem seqL_wp (f : Lane → Body F PUnit) (C : ℕ → sProp 𝕄) (Pre Post : Lane → sProp 𝕄)
    (step : ∀ n l, lanes.drop n = l :: lanes.drop (n + 1) →
      ∀ {α : Type} {Q : α → sProp (MT nD τ sig ℕ (Elt F) ℕ UU ℕ)} (k : PUnit → Body F α),
        iprop(C n ∗ Pre l) ⊢ iprop((iprop(C (n + 1) ∗ Post l) -∗ WP c (k ⟨⟩) Q) -∗ WP c (f l >>= k) Q))
    {α : Type} {Q : α → sProp (MT nD τ sig ℕ (Elt F) ℕ UU ℕ)} (k : PUnit → Body F α) :
    ∀ (ls : List Lane) (n : ℕ), lanes.drop n = ls →
      iprop(C n ∗ bigSepL ls Pre) ⊢ iprop((iprop(C (n + ls.length) ∗ bigSepL ls Post) -∗ WP c (k ⟨⟩) Q) -∗ WP c (seqL ls f >>= k) Q)
  | [], n, _ => by
    show iprop(C n ∗ emp) ⊢ iprop((iprop(C n ∗ emp) -∗ WP c (k ⟨⟩) Q) -∗ WP c (k ⟨⟩) Q)
    iintro H Hk
    iapply Hk; iexact H
  | l :: ls, n, h => by
    have h' : lanes.drop (n + 1) = ls := by rw [← List.drop_drop (i := 1), h]; rfl
    have hs : (seqL (l :: ls) f >>= k : Body F α) = f l >>= fun _ => seqL ls f >>= k := bind_assoc (f l) (fun _ => seqL ls f) k
    rw [hs, bigSepL_cons', bigSepL_cons', List.length_cons, show n + (ls.length + 1) = n + 1 + ls.length by omega]
    iintro ⟨HC, Hl, Hls⟩ Hk
    iapply (step n l (h.trans (congrArg _ h'.symm)) (fun _ => seqL ls f >>= k)) $$ [HC Hl]
    · isplitl [HC]; · iexact HC
      iexact Hl
    iintro ⟨HC, Hl⟩
    iapply (seqL_wp f C Pre Post step k ls (n + 1) h') $$ [HC Hls]
    · isplitl [HC]; · iexact HC
      iexact Hls
    iintro ⟨HC, Hls⟩
    iapply Hk
    isplitl [HC]; · iexact HC
    isplitl [Hl]; · iexact Hl
    iexact Hls

theorem drop_lt {n : ℕ} {l : Lane} (h : lanes.drop n = l :: lanes.drop (n + 1)) : n < 8 := by
  by_contra hn
  rw [List.drop_eq_nil_of_le (show lanes.length ≤ n from Nat.le_of_not_lt hn)] at h
  exact nomatch h

/-! ## What is owed as the program goes -/

/-- Owed by the first sends from lane `n` on; -/
def iniKeys (n : ℕ) : List Key := (lanes.drop n).map (Key.recv · 0)
/-- owed by hop `h` from lane `n` on; -/
def hopKeys (h n : ℕ) : List Key := (lanes.drop n).flatMap fun l => [Key.credit l h, Key.recv l (h + 1)]
/-- all that is owed. -/
def keys : List Key := Key.bar false :: Key.bar true :: (iniKeys 0 ++ (hopKeys 0 0 ++ hopKeys 1 0))

theorem iniKeys_step {n : ℕ} {l : Lane} (h : lanes.drop n = l :: lanes.drop (n + 1)) : iniKeys n = Key.recv l 0 :: iniKeys (n + 1) := by
  unfold iniKeys; rw [h]; rfl
theorem hopKeys_step (i : ℕ) {n : ℕ} {l : Lane} (h : lanes.drop n = l :: lanes.drop (n + 1)) :
    hopKeys i n = Key.credit l i :: Key.recv l (i + 1) :: hopKeys i (n + 1) := by
  unfold hopKeys; rw [h]; rfl

theorem ini_above : ∀ n < 8, Above 0 (iniKeys n ++ (hopKeys 0 0 ++ hopKeys 1 0)) := by decide +kernel
theorem hop0_above : ∀ n < 8, Above 1 (hopKeys 0 n ++ hopKeys 1 0) := by decide +kernel
theorem hop1_above : ∀ n < 8, Above 17 (hopKeys 1 n) := by decide +kernel
theorem hop0_credit : ∀ n < 8, ∀ l, lanes.drop n = l :: lanes.drop (n + 1) →
    Above (2 + laneNo l) (Key.recv l 1 :: (hopKeys 0 (n + 1) ++ hopKeys 1 0)) := by decide +kernel
theorem hop1_credit : ∀ n < 8, ∀ l, lanes.drop n = l :: lanes.drop (n + 1) →
    Above (18 + laneNo l) (Key.recv l 2 :: hopKeys 1 (n + 1)) := by decide +kernel

/-! ## A lane from phase to phase -/

/-- What a lane has at the start; -/
def LaneIn (l : Lane) : sProp 𝕄 :=
  iprop((subAny c l 0 ∗ tok c l (.send 0) 0 ∗ tok (nxt l.1 c) l (.recv 1) 0) ∗ HopRes c l 0 1 0 ∗ HopRes c l 1 0 1 ∗ crd c l (.recv 1) 33
    ∗ (bigSep Finset.univ fun p : Part => pos c l p 0) ∗ OutAny c l)
/-- with the slot the barrier brings; -/
def Lane0 (l : Lane) : sProp 𝕄 := iprop(subAny (nxt l.1 c) l 1 ∗ LaneIn c l)
/-- after the first send; -/
def Lane1 (l : Lane) : sProp 𝕄 := iprop(Core c l 0 1 0 0 0 ∗ HopRes c l 0 1 0 ∗ HopRes c l 1 0 1 ∗ crd c l (.recv 1) 33 ∗ OutAny c l)
/-- after the first hop; -/
def Lane2 (l : Lane) : sProp 𝕄 := iprop(Core c l 1 0 0 1 1 ∗ HopRes c l 1 0 1 ∗ crd c l (.recv 1) 33 ∗ OutAny c l)
/-- after the second; -/
def Lane3 (l : Lane) : sProp 𝕄 := iprop(Core c l 0 1 1 1 2 ∗ crd c l (.recv 1) 33 ∗ OutAny c l)
/-- after the last. -/
def Lane4 (l : Lane) : sProp 𝕄 := iprop(LaneEnd c l ∗ Before m c l.1 l.2)

/-- What every lane uses. -/
def Common (ks : List Key) : sProp 𝕄 := iprop(Rec m K ∗ levAts L lv ∗ Work m c ∗ AccAny c ∗ Owe c ks)

section phases
variable {α : Type} {Q : α → sProp (MT nD τ sig ℕ (Elt F) ℕ UU ℕ)}

theorem init_phase (k : PUnit → Body F α) :
    (iprop(Common m K c (iniKeys 0 ++ (hopKeys 0 0 ++ hopKeys 1 0)) ∗ bigSepL lanes (Lane0 c)) : sProp 𝕄)
      ⊢ iprop((iprop(Common m K c (hopKeys 0 0 ++ hopKeys 1 0) ∗ bigSepL lanes (Lane1 c)) -∗ WP c (k ⟨⟩) Q)
          -∗ WP c (seqL lanes (fun l => initLane l.1 l.2 (off c 0 l.1) (off_inb c 0 l.1) (dv0 c l)) >>= k) Q) := by
  refine seqL_wp c _ (fun n => Common m K c (iniKeys n ++ (hopKeys 0 0 ++ hopKeys 1 0))) (Lane0 c) (Lane1 c) ?_ k lanes 0 rfl
  intro n l h α Q k
  have hk := iniKeys_step h
  have ha := ini_above n (drop_lt h)
  rw [hk] at ha
  simp only [hk]
  unfold Common Lane0 LaneIn Lane1 Core
  rw [bigSep_parts]
  iintro ⟨⟨#HR, #Hlev, HW, HA, HO⟩, Hn, ⟨H0, Ht, Ht'⟩, HH, HH', Hc, ⟨P0, P1, P2, P3, P4⟩, HU⟩ Hk
  iapply (initLane_wp m K c l (off c 0 l.1) (off_inb c 0 l.1) (off_eq c 0 l.1) (dv0 c l) (dv0_eq c l) _ ha) $$ [HW HO H0 Hn Ht Ht']
  · isplitr; · iexact HR
    isplitr; · iexact Hlev
    isplitl [HW]; · iexact HW
    isplitl [HO]; · iexact HO
    isplitl [H0]; · iexact H0
    isplitl [Hn]; · iexact Hn
    isplitl [Ht]; · iexact Ht
    iexact Ht'
  iintro ⟨HW, HO, Cs⟩
  iapply Hk
  isplitl [HW HA HO]
  · isplitr; · iexact HR
    isplitr; · iexact Hlev
    isplitl [HW]; · iexact HW
    isplitl [HA]; · iexact HA
    iexact HO
  isplitl [P0 P1 P2 P3 P4 Cs]
  · isplitl [P0]; · iexact P0
    isplitl [P1]; · iexact P1
    isplitl [P3]; · iexact P3
    isplitl [P2]; · iexact P2
    isplitl [P4]; · iexact P4
    isplitr; · iapply (Rec_reached m K c (some (l, .send 1))); iexact HR
    isplitr; · iapply (Rec_reached m K c (some (l, .recv 0))); iexact HR
    iexact Cs
  isplitl [HH]; · iexact HH
  isplitl [HH']; · iexact HH'
  isplitl [Hc]; · iexact Hc
  iexact HU

theorem hop0_phase (k : PUnit → Body F α) :
    (iprop(Common m K c (hopKeys 0 0 ++ hopKeys 1 0) ∗ bigSepL lanes (Lane1 c)) : sProp 𝕄)
      ⊢ iprop((iprop(Common m K c (hopKeys 1 0) ∗ bigSepL lanes (Lane2 c)) -∗ WP c (k ⟨⟩) Q)
          -∗ WP c (seqL lanes (fun l => hopLane l.1 l.2 0 1 (off c 1 l.1) (off_inb c 1 l.1) (up1 c l) (dv1 c l)) >>= k) Q) := by
  refine seqL_wp c _ (fun n => Common m K c (hopKeys 0 n ++ hopKeys 1 0)) (Lane1 c) (Lane2 c) ?_ k lanes 0 rfl
  intro n l h α Q k
  have hk := hopKeys_step 0 h
  have ha := hop0_above n (drop_lt h)
  have hc := hop0_credit n (drop_lt h) l h
  rw [hk] at ha
  simp only [hk]
  unfold Common Lane1 Lane2
  iintro ⟨⟨#HR, #Hlev, HW, HA, HO⟩, HC, HH, HH', Hc, HU⟩ Hk
  iapply (hopLane_wp m K c l 0 1 0 (by decide) (by decide) (by decide) (by decide) (by decide) rfl rfl rfl (fun u => if_pos rfl)
    (off c 1 l.1) (off_inb c 1 l.1) (off_eq c 1 l.1) (up1 c l) (dv1 c l) (up1_eq c l) (dv1_eq c l) _ ha hc) $$ [HW HA HO HC HH]
  · isplitr; · iexact HR
    isplitr; · iexact Hlev
    isplitl [HW]; · iexact HW
    isplitl [HA]; · iexact HA
    isplitl [HO]; · iexact HO
    isplitl [HC]; · iexact HC
    iexact HH
  iintro ⟨HW, HA, HO, HC⟩
  iapply Hk
  isplitl [HW HA HO]
  · isplitr; · iexact HR
    isplitr; · iexact Hlev
    isplitl [HW]; · iexact HW
    isplitl [HA]; · iexact HA
    iexact HO
  isplitl [HC]; · iexact HC
  isplitl [HH']; · iexact HH'
  isplitl [Hc]; · iexact Hc
  iexact HU

theorem hop1_phase (k : PUnit → Body F α) :
    (iprop(Common m K c (hopKeys 1 0) ∗ bigSepL lanes (Lane2 c)) : sProp 𝕄)
      ⊢ iprop((iprop(Common m K c [] ∗ bigSepL lanes (Lane3 c)) -∗ WP c (k ⟨⟩) Q)
          -∗ WP c (seqL lanes (fun l => hopLane l.1 l.2 1 0 (off c 2 l.1) (off_inb c 2 l.1) (up2 c l) (dv2 c l)) >>= k) Q) := by
  refine seqL_wp c _ (fun n => Common m K c (hopKeys 1 n)) (Lane2 c) (Lane3 c) ?_ k lanes 0 rfl
  intro n l h α Q k
  have hk := hopKeys_step 1 h
  have ha := hop1_above n (drop_lt h)
  have hc := hop1_credit n (drop_lt h) l h
  rw [hk] at ha
  simp only [hk]
  unfold Common Lane2 Lane3
  iintro ⟨⟨#HR, #Hlev, HW, HA, HO⟩, HC, HH, Hc, HU⟩ Hk
  iapply (hopLane_wp m K c l 1 0 1 (by decide) (by decide) (by decide) (by decide) (by decide) rfl rfl rfl (fun u => if_neg (by decide))
    (off c 2 l.1) (off_inb c 2 l.1) (off_eq c 2 l.1) (up2 c l) (dv2 c l) (up2_eq c l) (dv2_eq c l) _ ha hc) $$ [HW HA HO HC HH]
  · isplitr; · iexact HR
    isplitr; · iexact Hlev
    isplitl [HW]; · iexact HW
    isplitl [HA]; · iexact HA
    isplitl [HO]; · iexact HO
    isplitl [HC]; · iexact HC
    iexact HH
  iintro ⟨HW, HA, HO, HC⟩
  iapply Hk
  isplitl [HW HA HO]
  · isplitr; · iexact HR
    isplitr; · iexact Hlev
    isplitl [HW]; · iexact HW
    isplitl [HA]; · iexact HA
    iexact HO
  isplitl [HC]; · iexact HC
  isplitl [Hc]; · iexact Hc
  iexact HU

theorem laneNo_of : ∀ n < 8, ∀ l, lanes.drop n = l :: lanes.drop (n + 1) → n = laneNo l := by decide +kernel

theorem way_next (l : Lane) : Way m c l.1 (l.2.val + 1) = OutFlight m c l := by
  obtain ⟨d, s⟩ := l
  match s with
  | 0 => rfl
  | 1 => rfl
  | 2 => rfl
  | 3 => rfl

/-- The two ways out before lane `n`. -/
def Ways (n : ℕ) : sProp 𝕄 := iprop(Way m c false ((n + 1) / 2) ∗ Way m c true (n / 2))

/-- A lane takes its direction's way out and leaves the other alone. -/
theorem ways_step (l : Lane) :
    Ways m c (laneNo l) ⊢ iprop(Way m c l.1 l.2.val ∗ (OutFlight m c l -∗ Ways m c (laneNo l + 1))) := by
  rw [← way_next m c l]
  obtain ⟨d, s⟩ := l
  unfold Ways
  cases d
  · have h1 : (laneNo (false, s) + 1) / 2 = s.val := by show (2 * s.val + 0 + 1) / 2 = s.val; omega
    have h2 : laneNo (false, s) / 2 = s.val := by show (2 * s.val + 0) / 2 = s.val; omega
    have h3 : (laneNo (false, s) + 1 + 1) / 2 = s.val + 1 := by show (2 * s.val + 0 + 1 + 1) / 2 = s.val + 1; omega
    rw [h1, h2, h3]
    iintro ⟨H, H'⟩
    isplitl [H]; · iexact H
    iintro H
    isplitl [H]; · iexact H
    iexact H'
  · have h1 : (laneNo (true, s) + 1) / 2 = s.val + 1 := by show (2 * s.val + 1 + 1) / 2 = s.val + 1; omega
    have h2 : laneNo (true, s) / 2 = s.val := by show (2 * s.val + 1) / 2 = s.val; omega
    have h3 : (laneNo (true, s) + 1 + 1) / 2 = s.val + 1 := by show (2 * s.val + 1 + 1 + 1) / 2 = s.val + 1; omega
    rw [h1, h2, h3]
    iintro ⟨H, H'⟩
    isplitl [H']; · iexact H'
    iintro H'
    isplitl [H]; · iexact H
    iexact H'

theorem ways_zero : Ways m c 0 = iprop(StageAny c false ∗ StageAny c true) := rfl
theorem ways_end : Ways m c 8 = iprop(OutFlight m c (false, 3) ∗ OutFlight m c (true, 3)) := rfl
theorem lane4_0 (d : Bool) : Lane4 m c (d, 0) = iprop(LaneEnd c (d, 0) ∗ emp) := rfl
theorem lane4_1 (d : Bool) : Lane4 m c (d, 1) = iprop(LaneEnd c (d, 1) ∗ OutFin m c (d, 0)) := rfl
theorem lane4_2 (d : Bool) : Lane4 m c (d, 2) = iprop(LaneEnd c (d, 2) ∗ OutFin m c (d, 1)) := rfl
theorem lane4_3 (d : Bool) : Lane4 m c (d, 3) = iprop(LaneEnd c (d, 3) ∗ OutFin m c (d, 2)) := rfl

theorem last_phase (k : PUnit → Body F α) :
    (iprop((Common m K c [] ∗ Ways m c 0) ∗ bigSepL lanes (Lane3 c)) : sProp 𝕄)
      ⊢ iprop((iprop((Common m K c [] ∗ Ways m c 8) ∗ bigSepL lanes (Lane4 m c)) -∗ WP c (k ⟨⟩) Q)
          -∗ WP c (seqL lanes (fun l => lastLane l.1 l.2 (off c 3 l.1) (off_inb c 3 l.1)) >>= k) Q) := by
  refine seqL_wp c _ (fun n => iprop(Common m K c [] ∗ Ways m c n)) (Lane3 c) (Lane4 m c) ?_ k lanes 0 rfl
  intro n l h α Q k
  rw [laneNo_of n (drop_lt h) l h]
  unfold Common Lane3 Lane4
  iintro ⟨⟨⟨#HR, #Hlev, HW, HA, HO⟩, Hway⟩, HC, Hc, HU⟩ Hk
  icases (ways_step m c l) $$ Hway with ⟨Hway, Hback⟩
  iapply (lastLane_wp m K c l (off c 3 l.1) (off_inb c 3 l.1) (off_eq c 3 l.1)) $$ [HW HA HO Hway HC Hc HU]
  · isplitr; · iexact HR
    isplitr; · iexact Hlev
    isplitl [HW]; · iexact HW
    isplitl [HA]; · iexact HA
    isplitl [HO]; · iexact HO
    isplitl [Hway]; · iexact Hway
    isplitl [HC]; · iexact HC
    isplitl [Hc]; · iexact Hc
    iexact HU
  iintro ⟨HW, HA, HO, Hf, He, Hb⟩
  iapply Hk
  isplitl [HW HA HO Hf Hback]
  · isplitl [HW HA HO]
    · isplitr; · iexact HR
      isplitr; · iexact Hlev
      isplitl [HW]; · iexact HW
      isplitl [HA]; · iexact HA
      iexact HO
    iapply Hback; iexact Hf
  isplitl [He]; · iexact He
  iexact Hb

/-! ## The whole program of a device -/

theorem bigSepL_lanes (Φ : Lane → sProp 𝕄) :
    bigSepL lanes Φ = iprop(Φ (false, 0) ∗ Φ (true, 0) ∗ Φ (false, 1) ∗ Φ (true, 1) ∗ Φ (false, 2) ∗ Φ (true, 2) ∗ Φ (false, 3) ∗ Φ (true, 3)) := rfl

theorem bigSep_four (Φ : Fin 4 → sProp 𝕄) : bigSep Finset.univ Φ = iprop(Φ 0 ∗ Φ 1 ∗ Φ 2 ∗ Φ 3) := by
  rw [bigSep_univ_eq_bigSepL [(0 : Fin 4), 1, 2, 3] (by decide) (by decide)]
  rfl

/-- What a device has for the barrier, -/
def BarIn : sProp 𝕄 :=
  iprop(dutyTok ER (barCell (prv false c)) 0 false ∗ dutyTok ER (barCell (prv true c)) 0 true
    ∗ (bigSep Finset.univ fun s : Fin 4 => subAny c (false, s) 1) ∗ (bigSep Finset.univ fun s : Fin 4 => subAny c (true, s) 1)
    ∗ cred (tallyAt (barCell c) 0 2) ∗ atPos ER (barCell c) 0 ∅ 0)

/-- its two arrays, in halves, and the staging pair for copies from them; -/
def Feeds : sProp 𝕄 :=
  iprop((bigSep Finset.univ fun b : Fin 2 => iprop(IdleX m c b ∗ (c : Thread nD τ).loc main_arg1 ↦{shareOf b} m ((c : Thread nD τ).loc main_arg1))))

/-- all it starts with; -/
def DevIn : sProp 𝕄 :=
  iprop(Rec m K ∗ levAts L lv ∗ Owe c keys ∗ BarIn c ∗ Feeds m c ∗ (∃ f : Buf (Elt F) (xbf.view.loc (c : Thread nD τ)), xbf.view.loc (c : Thread nD τ) ↦{fullShare} f)
    ∗ AccAny c ∗ (StageAny c false ∗ StageAny c true) ∗ bigSepL lanes (LaneIn c))

/-- and all it ends with. -/
def DevOut : sProp 𝕄 :=
  iprop(Owe c [] ∗ atPos ER (barCell c) 1 ∅ 0 ∗ Feeds m c ∗ (∃ f : Buf (Elt F) (xbf.view.loc (c : Thread nD τ)), xbf.view.loc (c : Thread nD τ) ↦{fullShare} f)
    ∗ AccAny c ∗ (StageAny c false ∗ StageAny c true) ∗ bigSepL lanes fun l => iprop(LaneEnd c l ∗ OutFin m c l))

theorem lanes_start : (iprop((bigSep Finset.univ fun s : Fin 4 => subAny (nxt false c) (false, s) 1)
      ∗ (bigSep Finset.univ fun s : Fin 4 => subAny (nxt true c) (true, s) 1) ∗ bigSepL lanes (LaneIn c)) : sProp 𝕄)
    ⊢ bigSepL lanes (Lane0 c) := by
  rw [bigSep_four, bigSep_four, bigSepL_lanes, bigSepL_lanes]
  unfold Lane0
  iintro ⟨⟨F0, F1, F2, F3⟩, ⟨T0, T1, T2, T3⟩, ⟨A0, B0, A1, B1, A2, B2, A3, B3⟩⟩
  isplitl [F0 A0]; · isplitl [F0] <;> [iexact F0; iexact A0]
  isplitl [T0 B0]; · isplitl [T0] <;> [iexact T0; iexact B0]
  isplitl [F1 A1]; · isplitl [F1] <;> [iexact F1; iexact A1]
  isplitl [T1 B1]; · isplitl [T1] <;> [iexact T1; iexact B1]
  isplitl [F2 A2]; · isplitl [F2] <;> [iexact F2; iexact A2]
  isplitl [T2 B2]; · isplitl [T2] <;> [iexact T2; iexact B2]
  isplitl [F3 A3]; · isplitl [F3] <;> [iexact F3; iexact A3]
  isplitl [T3] <;> [iexact T3; iexact B3]

theorem lanes_end : (iprop(bigSepL lanes (Lane4 m c) ∗ OutFin m c (false, 3) ∗ OutFin m c (true, 3)) : sProp 𝕄)
    ⊢ bigSepL lanes fun l => iprop(LaneEnd c l ∗ OutFin m c l) := by
  rw [bigSepL_lanes, bigSepL_lanes]
  simp only [lane4_0, lane4_1, lane4_2, lane4_3]
  iintro ⟨⟨⟨A0, -⟩, ⟨B0, -⟩, ⟨A1, F0⟩, ⟨B1, T0⟩, ⟨A2, F1⟩, ⟨B2, T1⟩, ⟨A3, F2⟩, ⟨B3, T2⟩⟩, F3, T3⟩
  isplitl [F0 A0]; · isplitl [A0] <;> [iexact A0; iexact F0]
  isplitl [T0 B0]; · isplitl [B0] <;> [iexact B0; iexact T0]
  isplitl [F1 A1]; · isplitl [A1] <;> [iexact A1; iexact F1]
  isplitl [T1 B1]; · isplitl [B1] <;> [iexact B1; iexact T1]
  isplitl [F2 A2]; · isplitl [A2] <;> [iexact A2; iexact F2]
  isplitl [T2 B2]; · isplitl [B2] <;> [iexact B2; iexact T2]
  isplitl [F3 A3]; · isplitl [A3] <;> [iexact A3; iexact F3]
  isplitl [B3] <;> [iexact B3; iexact T3]

theorem bigSep_two (Φ : Fin 2 → sProp 𝕄) : bigSep Finset.univ Φ = iprop(Φ 0 ∗ Φ 1) := by
  rw [bigSep_univ_eq_bigSepL [(0 : Fin 2), 1] (by decide) (by decide)]
  rfl

theorem bar_above : Above 0 (iniKeys 0 ++ (hopKeys 0 0 ++ hopKeys 1 0)) := ini_above 0 (by decide)

/-- A device's program, from start to end. -/
theorem bodyOn_wp (k : PUnit → Body F α) :
    (DevIn m K c : sProp 𝕄) ⊢ iprop((DevOut m c -∗ WP c (k ⟨⟩) Q) -∗ WP c (bodyOn c >>= k) Q) := by
  unfold bodyOn DevIn BarIn Feeds
  simp only [bind_assoc]
  rw [bigSep_two]
  iintro ⟨#HR, #Hlev, HO, ⟨Tb, Tb', Sf, St, Cb, Pb⟩, ⟨⟨HX0, HY0⟩, ⟨HX1, HY1⟩⟩, ⟨%f, Hx⟩, HA, ⟨Gf, Gt⟩, HL⟩ Hk
  iapply (barrier_wp m K c _ bar_above) $$ [HO Tb Tb' Sf St Cb Pb]
  · isplitr; · iexact HR
    isplitr; · iexact Hlev
    isplitl [HO]; · iexact HO
    isplitl [Tb]; · iexact Tb
    isplitl [Tb']; · iexact Tb'
    isplitl [Sf]; · iexact Sf
    isplitl [St]; · iexact St
    isplitl [Cb]; · iexact Cb
    iexact Pb
  iintro ⟨HO, Pb, Sf, St⟩
  iapply (xLoad_wp m c _ bar_above) $$ [HX0 HX1 Hx HO]
  · isplitr; · iexact Hlev
    isplitl [HX0]; · iexact HX0
    isplitl [HX1]; · iexact HX1
    isplitl [Hx]
    · unfold XSome
      iexists f
      isplitr; · ipureintro; exact fun j hj => absurd hj (Finset.notMem_empty j)
      iexact Hx
    iexact HO
  unfold IdleX Idle
  iintro ⟨⟨D0, V0, HX0⟩, ⟨D1, V1, HX1⟩, Hx, HO⟩
  ihave HL := (lanes_start c) $$ [Sf St HL]
  · isplitl [Sf]; · iexact Sf
    isplitl [St]; · iexact St
    iexact HL
  iapply (init_phase m K c) $$ [HO D0 V0 HY0 D1 V1 HY1 Hx HA HL]
  · unfold Common Work IdleDy Idle
    isplitr [HL]
    · isplitr; · iexact HR
      isplitr; · iexact Hlev
      isplitl [D0 V0 HY0 D1 V1 HY1 Hx]
      · isplitl [D0 V0 HY0]
        · isplitl [D0]; · iexact D0
          isplitl [V0]; · iexact V0
          iexact HY0
        isplitl [D1 V1 HY1]
        · isplitl [D1]; · iexact D1
          isplitl [V1]; · iexact V1
          iexact HY1
        iexact Hx
      isplitl [HA]; · iexact HA
      iexact HO
    iexact HL
  iintro H
  iapply (hop0_phase m K c) $$ H
  iintro H
  iapply (hop1_phase m K c) $$ H
  iintro ⟨HC, HL⟩
  iapply (last_phase m K c) $$ [HC HL Gf Gt]
  · rw [ways_zero]
    isplitl [HC Gf Gt]
    · isplitl [HC]; · iexact HC
      isplitl [Gf]; · iexact Gf
      iexact Gt
    iexact HL
  rw [ways_end]
  unfold Common Work IdleDy Idle XAll XSome
  iintro ⟨⟨⟨-, -, ⟨⟨D0, V0, HY0⟩, ⟨D1, V1, HY1⟩, ⟨%f', -, Hx⟩⟩, HA, HO⟩, Gf, Gt⟩, HL⟩
  iapply (outWait_wp m c (false, 3) [] (by decide)) $$ [Gf HO]
  · isplitr; · iexact Hlev
    isplitl [Gf]; · iexact Gf
    iexact HO
  iintro ⟨Gf, Of, HO⟩
  iapply (outWait_wp m c (true, 3) [] (by decide)) $$ [Gt HO]
  · isplitr; · iexact Hlev
    isplitl [Gt]; · iexact Gt
    iexact HO
  iintro ⟨Gt, Ot, HO⟩
  iapply Hk
  unfold DevOut Feeds
  rw [bigSep_two]
  isplitl [HO]; · iexact HO
  isplitl [Pb]; · iexact Pb
  isplitl [D0 V0 HX0 HY0 D1 V1 HX1 HY1]
  · unfold IdleX Idle
    isplitl [D0 V0 HX0 HY0]
    · isplitl [D0 V0 HX0]
      · isplitl [D0]; · iexact D0
        isplitl [V0]; · iexact V0
        iexact HX0
      iexact HY0
    isplitl [D1 V1 HX1]
    · isplitl [D1]; · iexact D1
      isplitl [V1]; · iexact V1
      iexact HX1
    iexact HY1
  isplitl [Hx]; · iexists f'; iexact Hx
  isplitl [HA]; · iexact HA
  isplitl [Gf Gt]
  · isplitl [Gf]; · iexact Gf
    iexact Gt
  iapply (lanes_end m c)
  isplitl [HL]; · iexact HL
  isplitl [Of]; · iexact Of
  iexact Ot

end phases

end Cert.KernelIdeal.Ring

end
-- ==== Proof.Ghost.lean ====
module

public import proofs.«01_k».proof.Proof.Body
public import Idealize.ShloMosaic.Lib.Pipeline.BigSepL

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal.Gen

variable {F : FTy → Type} [FloatOps F]

local notation "𝕄" => MT nD τ sig ℕ (Elt F) ℕ UU ℕ

variable (m : (ℓ : Loc nD τ sig) → Buf (Elt F) ℓ)

/-! ## Sums over the semaphores and the lanes -/

theorem lanes_univ (Φ : Lane → sProp 𝕄) : bigSep Finset.univ Φ = bigSepL lanes Φ :=
  bigSep_univ_eq_bigSepL lanes (by decide) (by decide) Φ

theorem bigSep_role (Φ : Role → sProp 𝕄) :
    bigSep Finset.univ Φ
      = iprop((bigSep Finset.univ fun l : Lane => bigSep Finset.univ fun p : Part => Φ (some (l, p))) ∗ Φ none) := by
  rw [bigSep_univ_equiv (Equiv.optionEquivSumPUnit (Lane × Part)).symm Φ, bigSep_univ_sum, bigSep_univ_prod,
    bigSep_univ_eq_bigSepL (I := PUnit.{1}) [PUnit.unit] rfl (List.nodup_singleton _)]
  rfl

theorem bigSep_bools (Φ : Bool → sProp 𝕄) : bigSep Finset.univ Φ = iprop(Φ false ∗ Φ true) := by
  rw [bigSep_univ_eq_bigSepL [false, true] (by decide) (by decide)]
  rfl

/-! ## The semaphores -/

/-- The semaphores of the kernel's own: those of the lanes, of the staging pair and of the ways out. -/
abbrev OwnIx : Type := (Lane × Part) ⊕ (Fin 2 ⊕ Lane)

def osem : OwnIx → SemLoc sig
  | .inl x => semOf (some x)
  | .inr (.inl b) => .dma (localSem b)
  | .inr (.inr l) => .dma (outSem (dix l.1) l.2)

theorem ownSemFacts : Pipeline.OwnSemFacts cfg0.spec osem := by decide +kernel

/-- The semaphores of the copies within a device, at zero. -/
def SemRest (c : Dev nD) : sProp 𝕄 :=
  iprop((bigSep Finset.univ fun b : Fin 2 => semVal ((c : Thread nD τ), SemLoc.dma (localSem b)) 0)
    ∗ bigSep Finset.univ fun l : Lane => semVal ((c : Thread nD τ), SemLoc.dma (outSem (dix l.1) l.2)) 0)

theorem ownSems0_eq (c : Dev nD) :
    (Pipeline.ownSems0 (Ix := ℕ) (Name := ℕ) (U := UU) (Lvl := ℕ) (Val := Elt F) (τ := τ) osem c : sProp 𝕄)
      = iprop((bigSep Finset.univ fun l : Lane => bigSep Finset.univ fun p : Part => semVal (cell c (some (l, p))) 0) ∗ SemRest c) := by
  unfold Pipeline.ownSems0 SemRest
  rw [bigSep_univ_sum, bigSep_univ_sum, bigSep_univ_prod]
  rfl

theorem unscopedSems0_eq (c : Dev nD) : (unscopedSems0 c : sProp 𝕄) = semVal (barCell c) 0 := by
  unfold unscopedSems0
  rw [bigSep_eq_bigSepL_of_eq [SemLoc.reg barSem] (by decide) (by decide)]
  rfl

theorem sems0_eq (c : Dev nD) :
    iprop(Pipeline.ownSems0 (Ix := ℕ) (Name := ℕ) (U := UU) (Lvl := ℕ) (Val := Elt F) (τ := τ) osem c ∗ unscopedSems0 c)
      ⊢ (iprop((bigSep Finset.univ fun k : Role => semVal (cell c k) 0) ∗ SemRest c) : sProp 𝕄) := by
  rw [ownSems0_eq, unscopedSems0_eq, bigSep_role]
  iintro ⟨⟨H, HR⟩, HB⟩
  isplitl [H HB]
  · isplitl [H] <;> iassumption
  iexact HR

/-! ## The cells and tokens made at the launch -/

theorem cell_injective : Function.Injective (fun p : Dev nD × Role => cell p.1 p.2) := by
  rintro ⟨c, k⟩ ⟨c', k'⟩ h
  have h1 : c = c' := congrArg (fun g : GSem nD τ sig => g.1.1) h
  have h2 : k = k' := semOf_injective (congrArg Prod.snd h)
  rw [h1, h2]

def ringCells : Finset (GSem nD τ sig) := Finset.univ.map ⟨_, cell_injective⟩

/-- A token: whose semaphore, which, which round, which payer. -/
abbrev TokIx : Type := Dev nD × (Role × (Fin 2 × Bool))

def tokOf (x : TokIx) : GSem nD τ sig × ℕ × Bool := (cell x.1 x.2.1, x.2.2.1.val, x.2.2.2)

theorem tokOf_injective : Function.Injective tokOf := by
  rintro ⟨c, k, r, d⟩ ⟨c', k', r', d'⟩ h
  have h1 := cell_injective (a₁ := (c, k)) (a₂ := (c', k')) (congrArg Prod.fst h)
  have h2 : r = r' := Fin.ext (congrArg (fun x : GSem nD τ sig × ℕ × Bool => x.2.1) h)
  have h3 : d = d' := congrArg (fun x : GSem nD τ sig × ℕ × Bool => x.2.2) h
  obtain ⟨rfl, rfl⟩ := Prod.mk.inj h1
  rw [h2, h3]

def ringToks : Finset (GSem nD τ sig × ℕ × Bool) := Finset.univ.map ⟨tokOf, tokOf_injective⟩

def u₀ : UU :=
  (initOf (Pipeline.cells cfgs cellOf_inj) (Pipeline.launchToks cfgs cellOf_inj), (initOf ringCells ringToks, 1))

/-- The tokens of a device's own semaphores, all that are made; -/
def toks (c : Dev nD) : sProp 𝕄 :=
  bigSep Finset.univ fun k : Role => bigSep Finset.univ fun y : Fin 2 × Bool => dutyTok ER (cell c k) y.1.val y.2

/-- those of a lane that are used, by the semaphores' owner; -/
def laneToks (c : Dev nD) (l : Lane) : sProp 𝕄 :=
  iprop(tok c l (.send 0) 0 ∗ tok c l (.send 0) 1 ∗ tok c l (.send 1) 0 ∗ tok c l (.recv 0) 0 ∗ tok c l (.recv 1) 0 ∗ tok c l (.recv 1) 1
    ∗ tok c l .credit 0 ∗ tok c l .credit 1)

/-- and by the device that pays with them. -/
def lanePay (c : Dev nD) (l : Lane) : sProp 𝕄 :=
  iprop(tok c l (.send 0) 0 ∗ tok c l (.send 0) 1 ∗ tok c l (.send 1) 0
    ∗ tok (nxt l.1 c) l (.recv 0) 0 ∗ tok (nxt l.1 c) l (.recv 1) 0 ∗ tok (nxt l.1 c) l (.recv 1) 1
    ∗ tok (prv l.1 c) l .credit 0 ∗ tok (prv l.1 c) l .credit 1)

def payToks (c : Dev nD) : sProp 𝕄 :=
  iprop(dutyTok ER (barCell (prv false c)) 0 false ∗ dutyTok ER (barCell (prv true c)) 0 true ∗ bigSep Finset.univ fun l => lanePay c l)

theorem toks_cell (g : GSem nD τ sig) :
    (bigSep Finset.univ fun y : Fin 2 × Bool => (dutyTok ER g y.1.val y.2 : sProp 𝕄))
      ⊢ iprop((dutyTok ER g 0 false ∗ dutyTok ER g 0 true) ∗ dutyTok ER g 1 false) := by
  rw [bigSep_univ_eq_bigSepL [((0 : Fin 2), false), (0, true), (1, false), (1, true)] (by decide) (by decide)]
  show iprop(dutyTok ER g 0 false ∗ dutyTok ER g 0 true ∗ dutyTok ER g 1 false ∗ dutyTok ER g 1 true) ⊢ _
  iintro ⟨H1, H2, H3, -⟩
  isplitl [H1 H2]
  · isplitl [H1] <;> iassumption
  iexact H3

theorem toks_lane (c : Dev nD) (l : Lane) :
    (bigSep Finset.univ fun p : Part => bigSep Finset.univ fun y : Fin 2 × Bool => (dutyTok ER (cell c (some (l, p))) y.1.val y.2 : sProp 𝕄))
      ⊢ laneToks c l := by
  refine (bigSep_mono fun p _ => toks_cell (cell c (some (l, p)))).trans ?_
  rw [bigSep_parts]
  unfold laneToks
  show (_ : sProp 𝕄) ⊢ _
  iintro ⟨⟨⟨S00, -⟩, S01⟩, ⟨⟨S10, -⟩, -⟩, ⟨⟨R00, -⟩, -⟩, ⟨⟨R10, -⟩, R11⟩, ⟨⟨C0, -⟩, C1⟩⟩
  isplitl [S00]; · iexact S00
  isplitl [S01]; · iexact S01
  isplitl [S10]; · iexact S10
  isplitl [R00]; · iexact R00
  isplitl [R10]; · iexact R10
  isplitl [R11]; · iexact R11
  isplitl [C0]; · iexact C0
  iexact C1

theorem toks_used (c : Dev nD) :
    (toks c : sProp 𝕄) ⊢ iprop((dutyTok ER (barCell c) 0 false ∗ dutyTok ER (barCell c) 0 true) ∗ bigSep Finset.univ fun l => laneToks c l) := by
  unfold toks
  rw [bigSep_role]
  iintro ⟨HL, HB⟩
  ihave HB := (toks_cell (F := F) (barCell c)) $$ HB
  icases HB with ⟨HB, -⟩
  isplitl [HB]; · iexact HB
  iapply (show (bigSep Finset.univ fun l : Lane => bigSep Finset.univ fun p : Part => bigSep Finset.univ fun y : Fin 2 × Bool =>
      (dutyTok ER (cell c (some (l, p))) y.1.val y.2 : sProp 𝕄)) ⊢ bigSep Finset.univ fun l => laneToks c l from
    bigSep_mono fun l _ => toks_lane (F := F) c l)
  iexact HL

theorem lanes_around :
    (bigSep Finset.univ fun c : Dev nD => bigSep Finset.univ fun l : Lane => (laneToks c l : sProp 𝕄))
      = bigSep Finset.univ fun c : Dev nD => bigSep Finset.univ fun l : Lane => lanePay c l := by
  rw [BI.bigSep_univ_comm fun (c : Dev nD) (l : Lane) => (laneToks c l : sProp 𝕄),
    BI.bigSep_univ_comm fun (c : Dev nD) (l : Lane) => (lanePay c l : sProp 𝕄)]
  refine bigSep_congr fun l _ => ?_
  unfold laneToks lanePay
  simp only [bigSep_sep']
  rw [bigSep_univ_equiv (ring l.1) (fun c : Dev nD => (tok c l (.recv 0) 0 : sProp 𝕄)),
    bigSep_univ_equiv (ring l.1) (fun c : Dev nD => (tok c l (.recv 1) 0 : sProp 𝕄)),
    bigSep_univ_equiv (ring l.1) (fun c : Dev nD => (tok c l (.recv 1) 1 : sProp 𝕄)),
    bigSep_univ_equiv (ring l.1).symm (fun c : Dev nD => (tok c l .credit 0 : sProp 𝕄)),
    bigSep_univ_equiv (ring l.1).symm (fun c : Dev nD => (tok c l .credit 1 : sProp 𝕄))]
  rfl

/-- The tokens dealt to the devices that pay with them. -/
theorem toks_around : (bigSep Finset.univ fun c : Dev nD => (toks c : sProp 𝕄)) ⊢ bigSep Finset.univ fun c : Dev nD => payToks c := by
  refine (bigSep_mono fun c _ => toks_used (F := F) c).trans ?_
  unfold payToks
  rw [bigSep_sep', bigSep_sep', bigSep_sep', bigSep_sep', lanes_around,
    bigSep_univ_equiv (ring false).symm (fun c : Dev nD => (dutyTok ER (barCell c) 0 false : sProp 𝕄)),
    bigSep_univ_equiv (ring true).symm (fun c : Dev nD => (dutyTok ER (barCell c) 0 true : sProp 𝕄))]
  show (_ : sProp 𝕄) ⊢ _
  iintro ⟨⟨H1, H2⟩, H3⟩
  isplitl [H1]; · iexact H1
  isplitl [H2]; · iexact H2
  iexact H3

/-! ## The launch's global step -/

/-- What the launch deals a device, -/
def G (c : Dev nD) : sProp 𝕄 :=
  iprop((bigSep Finset.univ fun k : Role => roundState ER (ringRd m) (cell c k) 0)
    ∗ (bigSep Finset.univ fun k : Role => atPos ER (cell c k) 0 ∅ 0)
    ∗ (bigSep Finset.univ fun k : Role => reached ER (cell c k) 0) ∗ toks c)

/-- and what a device has once the cells stand. -/
def Gh (c : Dev nD) : sProp 𝕄 :=
  iprop((bigSep Finset.univ fun k : Role => atPos ER (cell c k) 0 ∅ 0) ∗ payToks c ∗ SemRest c)

def G' (c : Dev nD) : sProp 𝕄 := iprop(∃ K, Rec m K ∗ Gh c)

theorem fund_ring : BI.own (ER (initOf ringCells ringToks)) ⊢ (|==> bigSep Finset.univ (G m) : sProp 𝕄) := by
  have hX (Φ : GSem nD τ sig → sProp 𝕄) :
      bigSep ringCells Φ = bigSep Finset.univ fun c : Dev nD => bigSep Finset.univ fun k : Role => Φ (cell c k) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks toks; rw [bigSep_map, bigSep_univ_prod]
    exact bigSep_congr fun c _ => bigSep_univ_prod _
  iintro HX
  imod (Rounds.fund ER (ringRd m) ringCells ringToks) $$ HX with ⟨Hst, Hr, Hat, Htok⟩
  imodintro
  ihave Hst := (Entails.of_eq (hX fun g => roundState ER (ringRd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat]; · iexact Hat
  isplitl [Hr]; · iexact Hr
  iexact Htok

theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun k : Role => iprop(∃ κ : ℕ, cellInv ER (ringRd m) κ (cell c k)))
          ∗ (bigSep Finset.univ fun k : Role => reached ER (cell c k) 0)
          ∗ (bigSep Finset.univ fun k : Role => atPos ER (cell c k) 0 ∅ 0) ∗ toks c ∗ SemRest c) := by
  unfold G
  iintro ⟨Hos, Hus, Hst, Hat, Hr, Htok⟩
  ihave Hv := (sems0_eq (F := F) c) $$ [Hos Hus]
  · isplitl [Hos] <;> iassumption
  icases Hv with ⟨Hv, HR⟩
  imod (show iprop((bigSep Finset.univ fun k : Role => semVal (cell c k) 0) ∗ bigSep Finset.univ fun k : Role => roundState ER (ringRd m) (cell c k) 0)
      ⊢ (|={Set.univ}=> bigSep Finset.univ fun k => iprop(∃ κ : ℕ, cellInv ER (ringRd m) κ (cell c k)) : sProp 𝕄) from by
        rw [← bigSep_sep']
        exact (bigSep_mono fun k _ => (Rounds.body_intro ER (ringRd m) (cell c k)).trans inv_alloc).trans (bigSep_fupd _ _)) $$ [Hv Hst] with Hinv
  · isplitl [Hv] <;> iassumption
  imodintro
  isplitl [Hinv]; · iexact Hinv
  isplitl [Hr]; · iexact Hr
  isplitl [Hat]; · iexact Hat
  isplitl [Htok]; · iexact Htok
  iexact HR

theorem regroup :
    (bigSep Finset.univ fun c : Dev nD => iprop((bigSep Finset.univ fun k : Role => iprop(∃ κ : ℕ, cellInv ER (ringRd m) κ (cell c k)))
          ∗ (bigSep Finset.univ fun k : Role => reached ER (cell c k) 0)
          ∗ (bigSep Finset.univ fun k : Role => atPos ER (cell c k) 0 ∅ 0) ∗ toks c ∗ SemRest c) : sProp 𝕄)
      ⊢ bigSep Finset.univ (G' m) := by
  rw [bigSep_sep', bigSep_sep', bigSep_sep', bigSep_sep',
    ← bigSep_univ_prod (fun p : Dev nD × Role => iprop(∃ κ : ℕ, cellInv ER (ringRd m) κ (cell p.1 p.2))),
    ← bigSep_univ_prod (fun p : Dev nD × Role => (reached ER (cell p.1 p.2) 0 : sProp 𝕄))]
  iintro ⟨HI, #HR, Hat, Htok, HS⟩
  ihave HK := (BI.bigSep_exists_pi Finset.univ (fun (p : Dev nD × Role) (κ : ℕ) => (cellInv ER (ringRd m) κ (cell p.1 p.2) : sProp 𝕄))) $$ HI
  icases HK with ⟨%K, #HI⟩
  ihave Htok := (toks_around (F := F)) $$ Htok
  ihave #HRec := (show iprop((bigSep Finset.univ fun p : Dev nD × Role => cellInv ER (ringRd m) (K p) (cell p.1 p.2))
      ∗ bigSep Finset.univ fun p : Dev nD × Role => reached ER (cell p.1 p.2) 0) ⊢ Rec m K from
        Entails.of_eq (by unfold Rec; rw [bigSep_sep'])) $$ [HI HR]
  · isplitl; · iexact HI
    iexact HR
  ihave HG := (show iprop((bigSep Finset.univ fun c : Dev nD => bigSep Finset.univ fun k : Role => atPos ER (cell c k) 0 ∅ 0)
      ∗ (bigSep Finset.univ fun c : Dev nD => payToks c) ∗ bigSep Finset.univ fun c : Dev nD => SemRest c)
      ⊢ (bigSep Finset.univ fun c : Dev nD => Gh c : sProp 𝕄) from
        Entails.of_eq (by unfold Gh; rw [bigSep_sep', bigSep_sep'])) $$ [Hat Htok HS]
  · isplitl [Hat]; · iexact Hat
    isplitl [Htok]; · iexact Htok
    iexact HS
  ihave HRs := (BI.bigSep_of_persistent (Finset.univ : Finset (Dev nD)) (Rec m K)) $$ HRec
  iapply (show iprop((bigSep Finset.univ fun _ : Dev nD => Rec m K) ∗ bigSep Finset.univ fun c : Dev nD => Gh c)
      ⊢ bigSep Finset.univ (G' m) from by
    rw [← bigSep_sep']
    exact bigSep_mono fun c _ => by
      unfold G'
      show (_ : sProp 𝕄) ⊢ _
      iintro H
      iexists K; iexact H)
  isplitl [HRs]; · iexact HRs
  iexact HG

theorem glob :
    (bigSep Finset.univ fun c => iprop(Pipeline.ownSems0 (Ix := ℕ) (Name := ℕ) (U := UU) (Lvl := ℕ) (Val := Elt F) (τ := τ) osem c ∗ unscopedSems0 c ∗ G m c) : sProp 𝕄)
      ⊢ |={Set.univ}=> bigSep Finset.univ (G' m) :=
  ((bigSep_mono fun c _ => core_alloc m c).trans (bigSep_fupd _ _)).trans (BI.fupd_mono (regroup m))

/-- The launch's element: the pipeline's and the ring's. -/
theorem launch_ghost : (ownU u₀ : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  ihave HX := (own_pair_emb embR (initOf ringCells ringToks) (1 : Counters)) $$ HX
  icases HX with ⟨HX, -⟩
  imod (fund_ring m) $$ HX with HG
  imodintro
  isplitl [HP] <;> iassumption

/-! ## The credit of the waits -/

/-- What all devices owe at the start. -/
def O₀ (c : Dev nD) : CellTallies nD τ sig ℕ := due c keys

/-- The device a payment goes to, as a rotation. -/
def Key.perm : Key → (Dev nD ≃ Dev nD)
  | .bar d => (ring d).symm
  | .recv l _ => ring l.1
  | .credit l _ => (ring l.1).symm

theorem Key.perm_eq (k : Key) (c : Dev nD) : k.perm c = k.dst c := by cases k <;> rfl

/-- What the payments amount to at the devices paid is what they amount to at the devices that pay. -/
theorem due_sum (ks : List Key) : (∑ d, due d ks) = ∑ d, TalkSites.tallyL (ks.map fun k => k.at d) := by
  induction ks with
  | nil => rfl
  | cons k ks ih =>
    rw [Finset.sum_congr rfl fun d _ => due_cons d k ks, Finset.sum_add_distrib, ih,
      ← Finset.sum_congr rfl (fun d _ => by rw [k.perm_eq d] : ∀ d ∈ Finset.univ,
        (tallyAt (cell (k.perm d) k.role) k.lev (units k.role) : CellTallies nD τ sig ℕ) = tallyAt (cell (k.dst d) k.role) k.lev (units k.role)),
      Equiv.sum_comp k.perm fun x => (tallyAt (cell x k.role) k.lev (units k.role) : CellTallies nD τ sig ℕ), ← Finset.sum_add_distrib]
    exact Finset.sum_congr rfl fun d _ => add_comm _ _

theorem due_own (ks : List Key) (d : Dev nD) (g : GSem nD τ sig) (h : TalkSites.tallyL (ks.map fun k => k.at d) g ≠ 0) : g.1 = (d : Thread nD τ) := by
  obtain ⟨i, hi⟩ := DFunLike.ne_iff.mp h
  obtain ⟨x, hx, rfl, -⟩ := TalkSites.tallyL_pos (Nat.pos_of_ne_zero hi)
  obtain ⟨k, -, rfl⟩ := List.mem_map.mp hx
  rfl

/-- The credit of the wait a payment ends. -/
def kc (c : Dev nD) (k : Key) : sProp 𝕄 := cred (tallyAt (cell c k.role) k.lev (units k.role))

/-- A lane's credits. -/
def laneCred (c : Dev nD) (l : Lane) : sProp 𝕄 :=
  iprop(kc c (Key.recv l 0) ∗ (kc c (Key.credit l 0) ∗ kc c (Key.recv l 1)) ∗ (kc c (Key.credit l 1) ∗ kc c (Key.recv l 2)))

theorem bigSepL_hops (h : ℕ) (Φ : Key → sProp 𝕄) (ls : List Lane) :
    bigSepL (ls.flatMap fun l => [Key.credit l h, Key.recv l (h + 1)]) Φ
      = bigSepL ls fun l => iprop(Φ (Key.credit l h) ∗ Φ (Key.recv l (h + 1))) := by
  induction ls with
  | nil => rfl
  | cons l ls ih =>
    rw [List.flatMap_cons, bigSepL_append, ih, bigSepL_cons' l ls]
    rfl

theorem kcs (c : Dev nD) (ks : List Key) : (cred (TalkSites.tallyL (ks.map fun k => k.at c)) : sProp 𝕄) = bigSepL ks (kc c) := by
  induction ks with
  | nil => exact cred_zero
  | cons k ks ih =>
    rw [List.map_cons, TalkSites.tallyL, bigSepL_cons', ← ih]
    exact BI.Entails.antisymm (cred_add _ _).1 (cred_add _ _).2

theorem launchCred_eq (ks : List Key) (c : Dev nD) : (Pipeline.launchCred (fun d => due d ks) c : sProp 𝕄) = bigSepL ks (kc c) := by
  refine (Pipeline.launchCred_of_sum (Val := Elt F) (Name := ℕ) (U := UU) (Lvl := ℕ) (fun d => due d ks)
    (fun d => TalkSites.tallyL (ks.map fun k => k.at d)) ?_ (due_own ks) c).trans (kcs c ks)
  have h := due_sum ks
  exact h

theorem keys_lanes (Φ : Key → sProp 𝕄) :
    bigSepL keys Φ = iprop(Φ (Key.bar false) ∗ Φ (Key.bar true) ∗ bigSep Finset.univ fun l =>
      iprop(Φ (Key.recv l 0) ∗ (Φ (Key.credit l 0) ∗ Φ (Key.recv l 1)) ∗ (Φ (Key.credit l 1) ∗ Φ (Key.recv l 2)))) := by
  unfold keys iniKeys hopKeys
  rw [bigSepL_cons', bigSepL_cons', bigSepL_append, bigSepL_append, List.drop_zero,
    bigSepL_map, bigSepL_hops, bigSepL_hops, ← lanes_univ, ← lanes_univ, ← lanes_univ,
    bigSep_sep' Finset.univ (fun l => Φ (Key.recv l 0)), bigSep_sep' Finset.univ (fun l => iprop(Φ (Key.credit l 0) ∗ Φ (Key.recv l 1)))]

theorem creds_bar (c : Dev nD) : (iprop(kc c (Key.bar false) ∗ kc c (Key.bar true)) : sProp 𝕄) ⊢ cred (tallyAt (barCell c) 0 2) := by
  rw [show (tallyAt (barCell c) 0 2 : CellTallies nD τ sig ℕ) = tallyAt (barCell c) 0 1 + tallyAt (barCell c) 0 1 from (tallyAt_add _ _ 1 1).symm]
  exact (cred_add _ _).2

theorem creds (c : Dev nD) :
    (Pipeline.launchCred O₀ c : sProp 𝕄) ⊢ iprop(cred (tallyAt (barCell c) 0 2) ∗ bigSep Finset.univ fun l => laneCred c l) := by
  refine (Entails.of_eq (launchCred_eq keys c)).trans ?_
  rw [keys_lanes]
  unfold laneCred
  iintro ⟨H1, H2, HL⟩
  isplitl [H1 H2]
  · iapply (creds_bar c); isplitl [H1] <;> iassumption
  iexact HL

end Cert.KernelIdeal.Ring

end
-- ==== Proof.Mem.lean ====
module

public import proofs.«01_k».proof.Proof.Ghost
public import Idealize.ShloMosaic.Lib.Ring

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal.Gen

variable {F : FTy → Type} [FloatOps F]

local notation "𝕄" => MT nD τ sig ℕ (Elt F) ℕ UU ℕ

variable (m : (ℓ : Loc nD τ sig) → Buf (Elt F) ℓ)

/-! ## The pieces of the buffers -/

theorem rSub_disj (p q : Fin 2 × Fin 4) (h : p ≠ q) : Disjoint (rSub p.1 p.2).set (rSub q.1 q.2).set := by
  obtain ⟨b, s⟩ := p
  obtain ⟨b', s'⟩ := q
  by_cases hb : b = b'
  · have hs : s.val ≠ s'.val := fun hs => h (by rw [hb, Fin.ext hs])
    exact Rect.unit_disjoint 2 (by show 1024 * s.val + 1024 ≤ 1024 * s'.val ∨ 1024 * s'.val + 1024 ≤ 1024 * s.val; omega)
  · have hb' : b.val ≠ b'.val := fun hb' => hb (Fin.ext hb')
    exact Rect.unit_disjoint 0 (by show b.val + 1 ≤ b'.val ∨ b'.val + 1 ≤ b.val; omega)

theorem rSub_cover (i : S2x512x4096.Idx) : ∃ p : Fin 2 × Fin 4, i ∈ (rSub p.1 p.2).set := by
  have h0 : (i 0).val < 2 := (i 0).isLt
  have h1 : (i 1).val < 512 := (i 1).isLt
  have h2 : (i 2).val < 4096 := (i 2).isLt
  refine ⟨(⟨(i 0).val, h0⟩, ⟨(i 2).val / 1024, by omega⟩), Rect.mem_set_unit.mpr fun a => ?_⟩
  match a with
  | 0 => exact ⟨le_refl _, by show (i 0).val < (i 0).val + 1; omega⟩
  | 1 => exact ⟨Nat.zero_le _, by show (i 1).val < 0 + 512; omega⟩
  | 2 =>
    exact ⟨by show 1024 * ((i 2).val / 1024) ≤ (i 2).val; omega,
      by show (i 2).val < 1024 * ((i 2).val / 1024) + 1024; omega⟩

theorem rDyv_disj (b b' : Fin 2) (h : b ≠ b') : Disjoint (rDyv b).set (rDyv b').set := by
  have hb : b.val ≠ b'.val := fun hb => h (Fin.ext hb)
  exact Rect.unit_disjoint 0 (by show b.val + 1 ≤ b'.val ∨ b'.val + 1 ≤ b.val; omega)

theorem rDyv_cover (i : S2x2048x512.Idx) : ∃ b : Fin 2, i ∈ (rDyv b).set := by
  have h0 : (i 0).val < 2 := (i 0).isLt
  have h1 : (i 1).val < 2048 := (i 1).isLt
  have h2 : (i 2).val < 512 := (i 2).isLt
  refine ⟨⟨(i 0).val, h0⟩, Rect.mem_set_unit.mpr fun a => ?_⟩
  match a with
  | 0 => exact ⟨le_refl _, by show (i 0).val < (i 0).val + 1; omega⟩
  | 1 => exact ⟨Nat.zero_le _, by show (i 1).val < 0 + 2048; omega⟩
  | 2 => exact ⟨Nat.zero_le _, by show (i 2).val < 0 + 512; omega⟩

theorem rAcc_disj (b b' : Fin 2) (h : b ≠ b') : Disjoint (rAcc b).set (rAcc b').set := by
  have hb : b.val ≠ b'.val := fun hb => h (Fin.ext hb)
  exact Rect.unit_disjoint 0 (by show b.val + 1 ≤ b'.val ∨ b'.val + 1 ≤ b.val; omega)

theorem rAcc_cover (i : S2x512x1024.Idx) : ∃ b : Fin 2, i ∈ (rAcc b).set := by
  have h0 : (i 0).val < 2 := (i 0).isLt
  have h1 : (i 1).val < 512 := (i 1).isLt
  have h2 : (i 2).val < 1024 := (i 2).isLt
  refine ⟨⟨(i 0).val, h0⟩, Rect.mem_set_unit.mpr fun a => ?_⟩
  match a with
  | 0 => exact ⟨le_refl _, by show (i 0).val < (i 0).val + 1; omega⟩
  | 1 => exact ⟨Nat.zero_le _, by show (i 1).val < 0 + 512; omega⟩
  | 2 => exact ⟨Nat.zero_le _, by show (i 2).val < 0 + 1024; omega⟩

theorem rOut_disj (l l' : Lane) (h : l ≠ l') : Disjoint (rOut l.1 l.2).set (rOut l'.1 l'.2).set := by
  have hl : lcol l.1 l.2 + 1024 ≤ lcol l'.1 l'.2 ∨ lcol l'.1 l'.2 + 1024 ≤ lcol l.1 l.2 := by
    revert l l'; decide
  exact Rect.unit_disjoint 1 hl

/-- The lane a column of the result belongs to. -/
def laneOf (n : ℕ) (h : n < 8192) : Lane := (decide (4096 ≤ n), ⟨n % 4096 / 1024, by omega⟩)

theorem laneOf_le (n : ℕ) (h : n < 8192) :
    lcol (laneOf n h).1 (laneOf n h).2 ≤ n ∧ n < lcol (laneOf n h).1 (laneOf n h).2 + 1024 := by
  unfold laneOf lcol
  by_cases hn : 4096 ≤ n
  · rw [decide_eq_true hn]
    show 4096 * 1 + 1024 * (n % 4096 / 1024) ≤ n ∧ n < 4096 * 1 + 1024 * (n % 4096 / 1024) + 1024
    omega
  · rw [decide_eq_false hn]
    show 4096 * 0 + 1024 * (n % 4096 / 1024) ≤ n ∧ n < 4096 * 0 + 1024 * (n % 4096 / 1024) + 1024
    omega

theorem rOut_cover (i : S512x8192.Idx) : ∃ l : Lane, i ∈ (rOut l.1 l.2).set := by
  have h0 : (i 0).val < 512 := (i 0).isLt
  have h1 : (i 1).val < 8192 := (i 1).isLt
  refine ⟨laneOf (i 1).val h1, Rect.mem_set_unit.mpr fun a => ?_⟩
  match a with
  | 0 => exact ⟨Nat.zero_le _, by show (i 0).val < 0 + 512; omega⟩
  | 1 => exact laneOf_le _ h1

section
variable {ℓ : Loc nD τ sig} {B : Type} [Fintype B] [DecidableEq B] (I : B → Finset (Idx ℓ))
  (hd : ∀ b b', b ≠ b' → Disjoint (I b) (I b')) (hc : ∀ i : Idx ℓ, ∃ b, i ∈ I b)

include hc in
theorem cover_eq : Finset.univ.biUnion I = Finset.univ :=
  Finset.eq_univ_iff_forall.mpr fun i => Finset.mem_biUnion.mpr (by
    obtain ⟨b, hb⟩ := hc i
    exact ⟨b, Finset.mem_univ b, hb⟩)

include hd hc in
/-- A whole buffer by pieces, -/
theorem whole_split : (iprop(∃ f, ℓ ↦{fullShare} f) : sProp 𝕄) ⊢ bigSep Finset.univ fun b => iprop(∃ f, ℓ ↦[I b]{fullShare} f) := by
  iintro ⟨%f, H⟩
  ihave H := (Entails.of_eq (Idealize.ShloMosaic.Ring.pointsTo_blocks I hd (cover_eq I hc) f)) $$ H
  iapply (show (bigSep Finset.univ fun b => ℓ ↦[I b]{fullShare} f : sProp 𝕄) ⊢ bigSep Finset.univ fun b => iprop(∃ f, ℓ ↦[I b]{fullShare} f) from
    bigSep_mono fun b _ => by
      show (_ : sProp 𝕄) ⊢ _
      iintro H; iexists f; iexact H)
  iexact H

include hd hc in
/-- and the pieces together. -/
theorem whole_join : (bigSep Finset.univ fun b => iprop(∃ f, ℓ ↦[I b]{fullShare} f) : sProp 𝕄) ⊢ iprop(∃ f, ℓ ↦{fullShare} f) :=
  Idealize.ShloMosaic.Ring.pointsTo_blocks_join_exists I hd (cover_eq I hc) (fun _ => Classical.arbitrary _)

end

theorem lanes_dirs (Φ : Lane → sProp 𝕄) :
    bigSep Finset.univ Φ = iprop((bigSep Finset.univ fun s : Fin 4 => Φ (false, s)) ∗ bigSep Finset.univ fun s : Fin 4 => Φ (true, s)) := by
  rw [bigSep_univ_prod, bigSep_bools]

section
variable (c : Dev nD)

/-! ### The slots -/

theorem sub_set (d : Bool) (p : Fin 2 × Fin 4) :
    (subM d p.1 p.2).view.set = ((rSub p.1 p.2).set : Finset S2x512x4096.Idx).map (comm d).view.emb :=
  (View.set_reshape _ _).trans (View.set_slice _ _)

theorem comm_univ (d : Bool) : (Finset.univ : Finset S2x512x4096.Idx).map (comm d).view.emb = Finset.univ := by
  cases d
  · exact View.set_whole _
  · exact View.set_whole _

theorem sub_disj (d : Bool) (p q : Fin 2 × Fin 4) (h : p ≠ q) : Disjoint (subM d p.1 p.2).view.set (subM d q.1 q.2).view.set := by
  rw [sub_set, sub_set]
  exact (Finset.disjoint_map _).mpr (rSub_disj p q h)

theorem sub_cover (d : Bool) (i : Idx ((comm d).view.loc (c : Thread nD τ))) : ∃ p : Fin 2 × Fin 4, i ∈ (subM d p.1 p.2).view.set := by
  have hi : i ∈ (Finset.univ : Finset S2x512x4096.Idx).map (comm d).view.emb := by rw [comm_univ]; exact Finset.mem_univ _
  obtain ⟨j, -, rfl⟩ := Finset.mem_map.mp hi
  obtain ⟨p, hp⟩ := rSub_cover j
  exact ⟨p, by rw [sub_set]; exact Finset.mem_map_of_mem _ hp⟩

/-- A whole buffer of slots, holding something. -/
def CommAny (d : Bool) : sProp 𝕄 :=
  iprop(∃ f : Buf (Elt F) ((comm d).view.loc (c : Thread nD τ)), (comm d).view.loc (c : Thread nD τ) ↦{fullShare} f)

theorem comm_split (d : Bool) :
    (CommAny c d : sProp 𝕄) ⊢ iprop((bigSep Finset.univ fun s : Fin 4 => subAny c (d, s) 0) ∗ bigSep Finset.univ fun s : Fin 4 => subAny c (d, s) 1) := by
  refine (whole_split (ℓ := (comm d).view.loc (c : Thread nD τ)) (fun p : Fin 2 × Fin 4 => (subM d p.1 p.2).view.set) (sub_disj d) (sub_cover c d)).trans
    (Entails.of_eq ?_)
  rw [bigSep_univ_prod, bigSep_two]
  rfl

theorem comm_join (d : Bool) :
    (iprop((bigSep Finset.univ fun s : Fin 4 => subAny c (d, s) 0) ∗ bigSep Finset.univ fun s : Fin 4 => subAny c (d, s) 1) : sProp 𝕄) ⊢ CommAny c d := by
  refine Entails.trans (Entails.of_eq ?_)
    (whole_join (ℓ := (comm d).view.loc (c : Thread nD τ)) (fun p : Fin 2 × Fin 4 => (subM d p.1 p.2).view.set) (sub_disj d) (sub_cover c d))
  rw [bigSep_univ_prod, bigSep_two]
  rfl

theorem comms_split :
    (iprop(CommAny c false ∗ CommAny c true) : sProp 𝕄)
      ⊢ iprop((bigSep Finset.univ fun l : Lane => subAny c l 0) ∗ (bigSep Finset.univ fun s : Fin 4 => subAny c (false, s) 1)
          ∗ bigSep Finset.univ fun s : Fin 4 => subAny c (true, s) 1) := by
  rw [lanes_dirs]
  iintro ⟨H0, H1⟩
  ihave H0 := (comm_split c false) $$ H0
  ihave H1 := (comm_split c true) $$ H1
  icases H0 with ⟨A0, B0⟩
  icases H1 with ⟨A1, B1⟩
  isplitl [A0 A1]
  · isplitl [A0] <;> iassumption
  isplitl [B0] <;> iassumption

theorem comms_join :
    (iprop((bigSep Finset.univ fun l : Lane => subAny c l 0) ∗ bigSep Finset.univ fun l : Lane => subAny c l 1) : sProp 𝕄)
      ⊢ iprop(CommAny c false ∗ CommAny c true) := by
  rw [lanes_dirs, lanes_dirs]
  iintro ⟨⟨A0, A1⟩, ⟨B0, B1⟩⟩
  isplitl [A0 B0]
  · iapply (comm_join c false); isplitl [A0] <;> iassumption
  · iapply (comm_join c true); isplitl [A1] <;> iassumption

/-! ### The staging buffers -/

theorem dyvM_rect (b : Fin 2) : (dyvM b).view.set = ((rDyv b).set : Finset S2x2048x512.Idx) :=
  (View.set_reshape _ _).trans (View.set_slice_whole _ _)

theorem dyv_split :
    (iprop(∃ f : Buf (Elt F) ((c : Thread nD τ).loc cc0_scratch3), (c : Thread nD τ).loc cc0_scratch3 ↦{fullShare} f) : sProp 𝕄)
      ⊢ bigSep Finset.univ fun b : Fin 2 => dyvAny c b :=
  whole_split (ℓ := (c : Thread nD τ).loc cc0_scratch3) (fun b : Fin 2 => (dyvM b).view.set)
    (fun b b' h => by rw [dyvM_rect, dyvM_rect]; exact rDyv_disj b b' h)
    (fun i => by obtain ⟨b, hb⟩ := rDyv_cover i; exact ⟨b, by rw [dyvM_rect]; exact hb⟩)

theorem dyv_join :
    (bigSep Finset.univ fun b : Fin 2 => dyvAny c b : sProp 𝕄)
      ⊢ iprop(∃ f : Buf (Elt F) ((c : Thread nD τ).loc cc0_scratch3), (c : Thread nD τ).loc cc0_scratch3 ↦{fullShare} f) :=
  whole_join (ℓ := (c : Thread nD τ).loc cc0_scratch3) (fun b : Fin 2 => (dyvM b).view.set)
    (fun b b' h => by rw [dyvM_rect, dyvM_rect]; exact rDyv_disj b b' h)
    (fun i => by obtain ⟨b, hb⟩ := rDyv_cover i; exact ⟨b, by rw [dyvM_rect]; exact hb⟩)

theorem stageM_rect (b : Fin 2) : (stageM b).view.set = ((rAcc b).set : Finset S2x512x1024.Idx) :=
  (View.set_reshape _ _).trans (View.set_slice_whole _ _)

theorem stage_pieces : (bigSep Finset.univ fun d : Bool => (StageAny c d : sProp 𝕄)) = iprop(StageAny c false ∗ StageAny c true) := bigSep_bools _

theorem stage_disj (d d' : Bool) (h : d ≠ d') : Disjoint (stageM (dix d)).view.set (stageM (dix d')).view.set := by
  rw [stageM_rect, stageM_rect]
  exact rAcc_disj _ _ (by revert d d'; decide)

theorem dix_surj : ∀ b : Fin 2, ∃ d, dix d = b := by decide

theorem stage_cover (i : Idx ((c : Thread nD τ).loc cc0_scratch5)) : ∃ d : Bool, i ∈ (stageM (dix d)).view.set := by
  obtain ⟨b, hb⟩ := rAcc_cover i
  obtain ⟨d, rfl⟩ := dix_surj b
  exact ⟨d, by rw [stageM_rect]; exact hb⟩

theorem stage_split :
    (iprop(∃ f : Buf (Elt F) ((c : Thread nD τ).loc cc0_scratch5), (c : Thread nD τ).loc cc0_scratch5 ↦{fullShare} f) : sProp 𝕄)
      ⊢ iprop(StageAny c false ∗ StageAny c true) := by
  rw [← stage_pieces]
  exact whole_split (ℓ := (c : Thread nD τ).loc cc0_scratch5) (fun d : Bool => (stageM (dix d)).view.set) stage_disj (stage_cover c)

theorem stage_join :
    (iprop(StageAny c false ∗ StageAny c true) : sProp 𝕄)
      ⊢ iprop(∃ f : Buf (Elt F) ((c : Thread nD τ).loc cc0_scratch5), (c : Thread nD τ).loc cc0_scratch5 ↦{fullShare} f) := by
  rw [← stage_pieces]
  exact whole_join (ℓ := (c : Thread nD τ).loc cc0_scratch5) (fun d : Bool => (stageM (dix d)).view.set) stage_disj (stage_cover c)

/-! ### The result -/

theorem outM_rect (l : Lane) : (outM l.1 l.2).view.set = ((rOut l.1 l.2).set : Finset S512x8192.Idx) := View.set_slice_whole _ _

theorem outM_disj (l l' : Lane) (h : l ≠ l') : Disjoint (outM l.1 l.2).view.set (outM l'.1 l'.2).view.set := by
  rw [outM_rect, outM_rect]; exact rOut_disj l l' h

theorem outM_cover (i : Idx ((c : Thread nD τ).loc main_v1)) : ∃ l : Lane, i ∈ (outM l.1 l.2).view.set := by
  obtain ⟨l, hl⟩ := rOut_cover i
  exact ⟨l, by rw [outM_rect]; exact hl⟩

theorem out_split :
    (iprop(∃ f : Buf (Elt F) ((c : Thread nD τ).loc main_v1), (c : Thread nD τ).loc main_v1 ↦{fullShare} f) : sProp 𝕄)
      ⊢ bigSep Finset.univ fun l : Lane => iprop(∃ f, (outM l.1 l.2).view.loc (c : Thread nD τ) ↦[(outM l.1 l.2).view.set]{fullShare} f) :=
  whole_split (ℓ := (c : Thread nD τ).loc main_v1) (fun l : Lane => (outM l.1 l.2).view.set) outM_disj (outM_cover c)

/-- The whole result holds every lane's sum. -/
def OutWhole : sProp 𝕄 :=
  iprop(∃ g : Buf (Elt F) ((c : Thread nD τ).loc main_v1), ⌜∀ l : Lane, (outM l.1 l.2).view.read (Elt F) g = total m c l⌝
    ∗ (c : Thread nD τ).loc main_v1 ↦{fullShare} g)

theorem out_join : (bigSep Finset.univ fun l : Lane => OutIs m c l : sProp 𝕄) ⊢ OutWhole m c := by
  have : Nonempty (Buf (Elt F) ((c : Thread nD τ).loc main_v1)) := ⟨fun _ => Classical.arbitrary _⟩
  unfold OutIs OutWhole
  refine (Idealize.SL.BI.bigSep_exists_pi Finset.univ (fun (l : Lane) (f : Buf (Elt F) ((c : Thread nD τ).loc main_v1)) =>
    (iprop(⌜(outM l.1 l.2).view.read (Elt F) f = total m c l⌝ ∗ (c : Thread nD τ).loc main_v1 ↦[(outM l.1 l.2).view.set]{fullShare} f) : sProp 𝕄))).trans ?_
  show (_ : sProp 𝕄) ⊢ _
  iintro ⟨%fs, H⟩
  ihave H := (BI.bigSep_pure_sep Finset.univ (fun l : Lane => (outM l.1 l.2).view.read (Elt F) (fs l) = total m c l)
    (fun l : Lane => ((c : Thread nD τ).loc main_v1 ↦[(outM l.1 l.2).view.set]{fullShare} fs l : sProp 𝕄))) $$ H
  icases H with ⟨%hp, H⟩
  ihave H := (pointsTo_biUnion_join Finset.univ (fun l : Lane => (outM l.1 l.2).view.set) fs (fun _ => Classical.arbitrary _)
    (fun l _ l' _ h => outM_disj l l' h)) $$ H
  icases H with ⟨%g, %hg, H⟩
  iexists g
  isplitr
  · ipureintro
    intro l
    exact (View.read_congr fun i hi => hg l (Finset.mem_univ l) i hi).trans (hp l (Finset.mem_univ l))
  · rw [cover_eq _ (outM_cover c)]
    iexact H

/-! ### The arrays read -/

theorem share_two (ℓ : Loc nD τ sig) (f : Buf (Elt F) ℓ) :
    (ℓ ↦{fullShare} f : sProp 𝕄) = bigSep Finset.univ fun b : Fin 2 => ℓ ↦{shareOf b} f := by
  rw [bigSep_two]
  exact BI.Entails.antisymm (pointsTo_share (PosShare.mem_left_op_right fullShare)).1 (pointsTo_share (PosShare.mem_left_op_right fullShare)).2

theorem feeds_split :
    (iprop((iprop(∃ f : Buf (Elt F) ((c : Thread nD τ).loc cc0_scratch3), (c : Thread nD τ).loc cc0_scratch3 ↦{fullShare} f))
        ∗ (bigSep Finset.univ fun b : Fin 2 => semVal ((c : Thread nD τ), SemLoc.dma (localSem b)) 0)
        ∗ ((c : Thread nD τ).loc main_arg0 ↦{fullShare} m ((c : Thread nD τ).loc main_arg0))
        ∗ (c : Thread nD τ).loc main_arg1 ↦{fullShare} m ((c : Thread nD τ).loc main_arg1)) : sProp 𝕄)
      ⊢ Feeds m c := by
  unfold Feeds IdleX Idle
  rw [share_two, share_two, bigSep_sep', bigSep_sep', bigSep_sep']
  iintro ⟨HD, HS, HX, HY⟩
  ihave HD := (dyv_split (F := F) c) $$ HD
  isplitl [HD HS HX]
  · isplitl [HD]; · iexact HD
    isplitl [HS]; · iexact HS
    iexact HX
  iexact HY

theorem feeds_join :
    (Feeds m c : sProp 𝕄)
      ⊢ iprop((iprop(∃ f : Buf (Elt F) ((c : Thread nD τ).loc cc0_scratch3), (c : Thread nD τ).loc cc0_scratch3 ↦{fullShare} f))
        ∗ (bigSep Finset.univ fun b : Fin 2 => semVal ((c : Thread nD τ), SemLoc.dma (localSem b)) 0)
        ∗ ((c : Thread nD τ).loc main_arg0 ↦{fullShare} m ((c : Thread nD τ).loc main_arg0))
        ∗ (c : Thread nD τ).loc main_arg1 ↦{fullShare} m ((c : Thread nD τ).loc main_arg1)) := by
  unfold Feeds IdleX Idle
  rw [share_two, share_two, bigSep_sep', bigSep_sep', bigSep_sep']
  iintro ⟨⟨HD, HS, HX⟩, HY⟩
  isplitl [HD]; · iapply (dyv_join (F := F) c); iexact HD
  isplitl [HS]; · iexact HS
  isplitl [HX]; · iexact HX
  iexact HY

end

end Cert.KernelIdeal.Ring

end
-- ==== Proof.Ends.lean ====
module

public import proofs.«01_k».proof.Proof.Mem

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal.Gen

variable {F : FTy → Type} [FloatOps F]

local notation "𝕄" => MT nD τ sig ℕ (Elt F) ℕ UU ℕ

variable (m : (ℓ : Loc nD τ sig) → Buf (Elt F) ℓ)

/-! ## From the launch to the program, and back -/

variable (K : Dev nD × Role → ℕ) (c : Dev nD)

/-- What a device starts with outside the kernel's own buffers; -/
def start : sProp 𝕄 :=
  iprop(G' m c ∗ levAts L lv ∗ cred (tallyAt (barCell c) 0 2) ∗ (bigSep Finset.univ fun l : Lane => laneCred c l)
    ∗ ((c : Thread nD τ).loc main_arg0 ↦{fullShare} m ((c : Thread nD τ).loc main_arg0))
    ∗ ((c : Thread nD τ).loc main_arg1 ↦{fullShare} m ((c : Thread nD τ).loc main_arg1))
    ∗ ∃ f : Buf (Elt F) ((c : Thread nD τ).loc main_v1), (c : Thread nD τ).loc main_v1 ↦{fullShare} f)

/-- with the kernel's own buffers; -/
def Φ₀ : sProp 𝕄 := iprop(start m c ∗ Pipeline.scopedRest cfg0.spec c)

/-- what it ends with outside them; -/
def Kept : sProp 𝕄 :=
  iprop(((c : Thread nD τ).loc main_arg0 ↦{fullShare} m ((c : Thread nD τ).loc main_arg0))
    ∗ ((c : Thread nD τ).loc main_arg1 ↦{fullShare} m ((c : Thread nD τ).loc main_arg1))
    ∗ OutWhole m c ∗ unscopedSems0 c)

/-- and with them. -/
def Φ₁ : sProp 𝕄 := iprop(Kept m c ∗ Pipeline.ownSems0 osem c ∗ Pipeline.scopedRest cfg0.spec c)

/-- A lane's credits, by the waits that take them. -/
theorem laneCred_eq (l : Lane) :
    (laneCred c l : sProp 𝕄) = iprop(crd c l (.recv 1) (16 * 0 + 1)
      ∗ (crd c l .credit (16 * 0 + 2 + laneNo l) ∗ crd c l (.recv 0) (16 * 1 + 1))
      ∗ (crd c l .credit (16 * 1 + 2 + laneNo l) ∗ crd c l (.recv 1) 33)) := rfl

theorem lane_in (l : Lane) :
    (iprop(subAny c l 0 ∗ lanePay c l ∗ laneCred c l ∗ (bigSep Finset.univ fun p : Part => pos c l p 0)
        ∗ (∃ f, (outM l.1 l.2).view.loc (c : Thread nD τ) ↦[(outM l.1 l.2).view.set]{fullShare} f)
        ∗ semVal ((c : Thread nD τ), SemLoc.dma (outSem (dix l.1) l.2)) 0) : sProp 𝕄) ⊢ LaneIn c l := by
  rw [laneCred_eq]
  unfold LaneIn lanePay HopRes OutAny
  iintro ⟨HS, ⟨T1, T2, T3, T4, T5, T6, T7, T8⟩, ⟨C1, ⟨C2, C3⟩, C4, C5⟩, HP, HO⟩
  isplitl [HS T1 T5]
  · isplitl [HS]; · iexact HS
    isplitl [T1] <;> iassumption
  isplitl [T7 T3 T4 C1 C2]
  · isplitl [T7]; · iexact T7
    isplitl [T3]; · iexact T3
    isplitl [T4]; · iexact T4
    isplitl [C1]; · iexact C1
    iexact C2
  isplitl [T8 T2 T6 C3 C4]
  · isplitl [T8]; · iexact T8
    isplitl [T2]; · iexact T2
    isplitl [T6]; · iexact T6
    isplitl [C3]; · iexact C3
    iexact C4
  isplitl [C5]; · iexact C5
  isplitl [HP]; · iexact HP
  iexact HO

theorem lanes_in :
    (iprop((bigSep Finset.univ fun l : Lane => subAny c l 0) ∗ (bigSep Finset.univ fun l : Lane => lanePay c l)
        ∗ (bigSep Finset.univ fun l : Lane => laneCred c l)
        ∗ (bigSep Finset.univ fun l : Lane => bigSep Finset.univ fun p : Part => pos c l p 0)
        ∗ (bigSep Finset.univ fun l : Lane =>
            iprop(∃ f, (outM l.1 l.2).view.loc (c : Thread nD τ) ↦[(outM l.1 l.2).view.set]{fullShare} f))
        ∗ bigSep Finset.univ fun l : Lane => semVal ((c : Thread nD τ), SemLoc.dma (outSem (dix l.1) l.2)) 0) : sProp 𝕄)
      ⊢ bigSepL lanes (LaneIn c) := by
  rw [← lanes_univ, ← bigSep_sep', ← bigSep_sep', ← bigSep_sep', ← bigSep_sep', ← bigSep_sep']
  exact bigSep_mono fun l _ => lane_in c l

/-- A device holds what its program starts with. -/
theorem dev_in : (iprop(Φ₀ m c ∗ Owe c keys) : sProp 𝕄) ⊢ iprop(∃ K, Rec m K ∗ DevIn m K c) := by
  unfold Φ₀ start G' Gh DevIn BarIn AccAny payToks SemRest
  rw [scopedRest0_eq, bigSep_role]
  iintro ⟨⟨⟨⟨%K, #HR, ⟨HPos, HPb⟩, ⟨Tb, Tb', HT⟩, HSl, HSo⟩, #Hlev, HCb, HC, HX, HY, HV⟩, B0, B1, B2, B3, B4, B5⟩, HO⟩
  iexists K
  ihave HB := (comms_split (F := F) c) $$ [B0 B1]
  · unfold CommAny
    isplitl [B0]; · iexact B0
    iexact B1
  icases HB with ⟨HS0, HSf, HSt⟩
  ihave B5 := (stage_split (F := F) c) $$ B5
  ihave HV := (out_split (F := F) c) $$ HV
  ihave HF := (feeds_split m c) $$ [B3 HSl HX HY]
  · isplitl [B3]; · iexact B3
    isplitl [HSl]; · iexact HSl
    isplitl [HX] <;> iassumption
  ihave HL := (lanes_in (F := F) c) $$ [HS0 HT HC HPos HV HSo]
  · isplitl [HS0]; · iexact HS0
    isplitl [HT]; · iexact HT
    isplitl [HC]; · iexact HC
    isplitl [HPos]; · iexact HPos
    isplitl [HV]; · iexact HV
    iexact HSo
  isplitr; · iexact HR
  isplitr; · iexact HR
  isplitr; · iexact Hlev
  isplitl [HO]; · iexact HO
  isplitl [Tb Tb' HSf HSt HCb HPb]
  · isplitl [Tb]; · iexact Tb
    isplitl [Tb']; · iexact Tb'
    isplitl [HSf]; · iexact HSf
    isplitl [HSt]; · iexact HSt
    isplitl [HCb]; · iexact HCb
    iexact HPb
  isplitl [HF]; · iexact HF
  isplitl [B2]; · iexact B2
  isplitl [B4]; · iexact B4
  isplitl [B5]; · iexact B5
  iexact HL

/-! ### The semaphores close -/

/-- After its last round a semaphore is the device's again, at zero. -/
theorem close (k : Role) :
    (iprop(Rec m K ∗ atPos ER (cell c k) (rounds k) ∅ 0) : sProp 𝕄) ⊢ |={Set.univ}=> semVal (cell c k) 0 := by
  iintro ⟨HR, HP⟩
  ihave HI := (Rec_inv m K c k) $$ HR
  iapply (Rounds.cell_close ER (ringRd m) (Set.mem_univ (K (c, k))) (fun h => h) (R := rounds k) (fun r h => duties_after m c k r h))
  isplitl [HI] <;> iassumption

/-- A change each member makes with the help of a lasting fact, all make. -/
theorem each_with {I : Type} [DecidableEq I] {S : Finset I} {R : sProp 𝕄} [BI.Persistent R] {Φ Ψ : I → sProp 𝕄}
    (h : ∀ i ∈ S, iprop(R ∗ Φ i) ⊢ |={Set.univ}=> Ψ i) : iprop(R ∗ bigSep S Φ) ⊢ |={Set.univ}=> bigSep S Ψ := by
  refine (sep_mono_left (BI.bigSep_of_persistent S R)).trans ?_
  rw [← bigSep_sep']
  exact (bigSep_mono h).trans (bigSep_fupd _ _)

theorem close_all :
    (iprop(Rec m K ∗ bigSep Finset.univ fun l : Lane => bigSep Finset.univ fun p : Part => pos c l p (rounds (some (l, p)))) : sProp 𝕄)
      ⊢ |={Set.univ}=> bigSep Finset.univ fun l : Lane => bigSep Finset.univ fun p : Part => semVal (cell c (some (l, p))) 0 :=
  each_with (R := Rec m K) fun l _ => each_with (R := Rec m K) fun p _ => close m K c (some (l, p))

theorem lanes_out :
    (bigSepL lanes (fun l => iprop(LaneEnd c l ∗ OutFin m c l)) : sProp 𝕄)
      ⊢ iprop((bigSep Finset.univ fun l : Lane => bigSep Finset.univ fun p : Part => pos c l p (rounds (some (l, p))))
          ∗ (iprop((bigSep Finset.univ fun l : Lane => subAny c l 0) ∗ bigSep Finset.univ fun l : Lane => subAny c l 1))
          ∗ (bigSep Finset.univ fun l : Lane => OutIs m c l)
          ∗ bigSep Finset.univ fun l : Lane => semVal ((c : Thread nD τ), SemLoc.dma (outSem (dix l.1) l.2)) 0) := by
  rw [← lanes_univ]
  unfold LaneEnd OutFin
  rw [bigSep_sep', bigSep_sep', bigSep_sep', bigSep_sep']
  iintro ⟨⟨HP, H0, H1⟩, HO, HS⟩
  isplitl [HP]; · iexact HP
  isplitl [H0 H1]
  · isplitl [H0] <;> iassumption
  isplitl [HO] <;> iassumption

/-- What a device's program ends with is what the launch is to have back. -/
theorem dev_out : (iprop(Rec m K ∗ DevOut m c) : sProp 𝕄) ⊢ |={Set.univ}=> iprop(Φ₁ m c ∗ Owe c []) := by
  unfold DevOut Φ₁ Kept AccAny
  rw [scopedRest0_eq, ownSems0_eq, unscopedSems0_eq]
  unfold SemRest
  iintro ⟨#HR, HO, HPb, HF, B2, B4, HSt, HL⟩
  ihave HL := (lanes_out m c) $$ HL
  icases HL with ⟨HP, HC, HV, HSo⟩
  imod (close m K c none) $$ [HPb] with HB
  · isplitr; · iexact HR
    iexact HPb
  imod (close_all m K c) $$ [HP] with HS
  · isplitr; · iexact HR
    iexact HP
  ihave HC := (comms_join (F := F) c) $$ HC
  unfold CommAny
  icases HC with ⟨B0, B1⟩
  ihave B5 := (stage_join (F := F) c) $$ HSt
  ihave HV := (out_join m c) $$ HV
  ihave HF := (feeds_join m c) $$ HF
  icases HF with ⟨B3, HSl, HX, HY⟩
  imodintro
  isplitr [HO]
  · isplitl [HX HY HV HB]
    · isplitl [HX]; · iexact HX
      isplitl [HY]; · iexact HY
      isplitl [HV]; · iexact HV
      iexact HB
    isplitl [HS HSl HSo]
    · isplitl [HS]; · iexact HS
      isplitl [HSl]; · iexact HSl
      iexact HSo
    isplitl [B0]; · iexact B0
    isplitl [B1]; · iexact B1
    isplitl [B2]; · iexact B2
    isplitl [B3]; · iexact B3
    isplitl [B4]; · iexact B4
    iexact B5
  iexact HO

end Cert.KernelIdeal.Ring

end
-- ==== Proof.BodyEq.lean ====
module

public import proofs.«01_k».proof.Proof.Blocks

@[expose] public section

noncomputable section

namespace Cert.KernelIdeal.Ring

open Idealize.ShloMosaic Idealize.ShloMosaic.TcCoe Idealize.SL Idealize.SL.Sem
open Cert.KernelIdeal.Gen

variable {F : FTy → Type} [FloatOps F]

set_option maxRecDepth 200000 in
set_option maxHeartbeats 0 in
/-- The printed body is the body in blocks. -/
theorem body_eq (t : Fin cfg0.N) : (bodyAt0 t : Body F PUnit) = bodyAll := by
  rfl

end Cert.KernelIdeal.Ring

end
-- ==== Proof.Run.lean ====
module

public import proofs.«01_k».proof.Proof.Ends
public import proofs.«01_k».proof.Proof.BodyEq
public import Idealize.ShloMosaic.Lib.Pipeline.CollectiveSegs

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal.Gen

variable {F : FTy → Type} [FloatOps F]

local notation "𝕄" => MT nD τ sig ℕ (Elt F) ℕ UU ℕ

variable (m : (ℓ : Loc nD τ sig) → Buf (Elt F) ℓ)

open Idealize.ShloMosaic.Pipeline (Dat Cfg Window BodyObligation)

variable (ρ : Dev nD → PrngReg)

/-! ## The program meets its obligation -/

/-- The invariant before the body and after it. -/
def dats (_ : Fin 1) (c : Dev nD) : Dat τ (Elt F) ℕ ℕ UU ℕ cfg0 c where
  A w := m ((cfg0.win w).arr.view.loc (c : Thread nD τ))
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

theorem no_windows (Φ : Fin cfg0.W → sProp 𝕄) : bigSep Finset.univ Φ = iprop(emp) := rfl

/-- The body on every device. -/
theorem body_wp (c : Dev nD) :
    (iprop(Φ₀ m c ∗ Owe c keys) : sProp 𝕄) ⊢ WP c bodyAll fun _ => iprop(Φ₁ m c ∗ Owe c []) := by
  unfold bodyAll
  simp only [Prog.lift, Prog.bind_op, Prog.bind_ret, wp_deviceId]
  iintro H
  ihave H := (dev_in m c) $$ H
  icases H with ⟨%K, #HR, H⟩
  rw [← bind_pure (bodyOn c)]
  iapply (bodyOn_wp m K c (k := pure)) $$ [H]
  · iexact H
  iintro H
  imod (dev_out m K c) $$ [H] with H
  · isplitr; · iexact HR
    iexact H
  rw [show (pure PUnit.unit : Body F PUnit) = Prog.ret PUnit.unit from rfl, wp_ret]
  imodintro
  iexact H

/-- What the pipeline calls is the body. -/
theorem body_call (t : Fin cfg0.N) :
    defs₀ (F := F) .tc cfg0.body (cfg0.bodyArgs t (cfg0.slots t)) = bodyAt0 t := by
  simp only [defs₀, Defs.onTc]

theorem wp_then {A B C E : sProp 𝕄} (c : Dev nD) (p : Body F PUnit) (hp : B ⊢ WP c p fun _ => C) (h : A ⊢ B) (h' : C ⊢ E) :
    A ⊢ WP c p fun _ => E := h.trans (hp.trans (wp_mono _ _ _ fun _ => h'))

theorem body_obligation (c : Dev nD) : BodyObligation (dats (F := F) m 0 c) (defs₀ (F := F)) 𝒱₀ 0 Set.univ := fun t => by
  rw [fin_N0 t, no_windows, no_windows, body_call, body_eq, show (dats (F := F) m 0 c).Φ t0_0.castSucc = Φ₀ m c from rfl,
    show (dats (F := F) m 0 c).Φ t0_0.succ = Φ₁ m c from rfl]
  have hb := body_wp m c
  generalize (bodyAll : Body F PUnit) = p at hb ⊢
  refine wp_then c p hb ?_ ?_
  · unfold Dat.owesAt Pipeline.owesWithin Owe
    iintro ⟨H, ⟨%W, -, HO⟩, -⟩
    isplitl [H]; · iexact H
    iexists W; iexact HO
  · show (_ : sProp 𝕄) ⊢ _
    unfold Dat.owesAt Pipeline.owesWithin Owe
    iintro ⟨H, %W, HO⟩
    isplitl [H]; · iexact H
    isplitl
    · iexists W
      isplitr; · ipureintro; exact fun _ _ => Or.inl trivial
      iexact HO
    iempintro

/-! ## The launch -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ (|={Set.univ}=> iprop(start m c ∗ emp) : sProp 𝕄) := by
  rw [Pipeline.unscopedRestP_none, unscopedRest0_eq]
  unfold start
  iintro ⟨⟨HX, HY, HV⟩, Hlev, HC, -, HG⟩
  ihave HC := (creds (F := F) c) $$ HC
  icases HC with ⟨HCb, HC⟩
  imodintro
  isplitl
  · isplitl [HG]; · iexact HG
    isplitl [Hlev]; · iexact Hlev
    isplitl [HCb]; · iexact HCb
    isplitl [HC]; · iexact HC
    isplitl [HX]; · iexact HX
    isplitl [HY]; · iexact HY
    iexists _; iexact HV
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨HS, -, HB⟩
  isplitl [HS] <;> iassumption

theorem phi1_exit (c : Dev nD) :
    (dats m 0 c).Φ (Fin.last cfg0.N) ⊢ iprop(Kept m c ∗ Pipeline.ownSems0 osem c ∗ Pipeline.scopedRest cfg0.spec c) := by
  rw [show (dats m 0 c).Φ (Fin.last cfg0.N) = Φ₁ m c from rfl]
  unfold Φ₁
  iintro H
  iexact H

/-- What a device's memory holds at the end: its arguments as they were and every lane's sum. -/
def Ends (c : Dev nD) (s : (ℓ : Loc nD τ sig) → Buf (Elt F) ℓ) : Prop :=
  (s ((c : Thread nD τ).loc main_arg0) = m ((c : Thread nD τ).loc main_arg0)
    ∧ s ((c : Thread nD τ).loc main_arg1) = m ((c : Thread nD τ).loc main_arg1))
    ∧ ∀ l : Lane, (outM l.1 l.2).view.read (Elt F) (s ((c : Thread nD τ).loc main_v1)) = total m c l

theorem read_one (ℓ : Loc nD τ sig) (f : Buf (Elt F) ℓ) (s' : Phys nD τ sig (Elt F)) :
    (iprop((ℓ ↦{fullShare} f) ∗ SI s') : sProp 𝕄) ⊢ iprop(⌜s'.mem.mem ℓ = f⌝ ∗ SI s') := by
  iintro ⟨H, HS⟩
  ihave H := (pointsTo_read_all (I := Unit) {()} (fun _ => ℓ) (fun _ => f) s') $$ [H HS]
  · isplitl [H]
    · iapply (Entails.of_eq bigSep_singleton.symm); iexact H
    iexact HS
  icases H with ⟨%h, HS⟩
  isplitr; · ipureintro; exact h () (Finset.mem_singleton_self _)
  iexact HS

theorem kept_read (c : Dev nD) (s' : Phys nD τ sig (Elt F)) :
    (iprop(Kept m c ∗ emp ∗ SI s') : sProp 𝕄)
      ⊢ |={Set.univ}=> iprop(⌜Ends m c s'.mem.mem ∧ ∀ sm : SemLoc sig, sm.isScoped .tc = false → s'.mem.sem ((c.tc : Thread nD τ), sm) = 0⌝ ∗ SI s') := by
  unfold Kept OutWhole
  iintro ⟨⟨HX, HY, ⟨%g, %hg, HV⟩, HU⟩, -, HS⟩
  ihave H := (read_one _ _ s') $$ [HX HS]
  · isplitl [HX] <;> iassumption
  icases H with ⟨%hX, HS⟩
  ihave H := (read_one _ _ s') $$ [HY HS]
  · isplitl [HY] <;> iassumption
  icases H with ⟨%hY, HS⟩
  ihave H := (read_one _ _ s') $$ [HV HS]
  · isplitl [HV] <;> iassumption
  icases H with ⟨%hV, HS⟩
  imod (Pipeline.unscopedSems0_read (X := unscopedSems0 c) (c := c) fupd_intro s') $$ [HU HS] with H
  · isplitl [HU] <;> iassumption
  icases H with ⟨%hU, HS⟩
  imodintro
  isplitr
  · ipureintro
    exact ⟨⟨⟨hX, hY⟩, fun l => by rw [hV]; exact hg l⟩, hU⟩
  iexact HS

theorem share_eq (c : Dev nD) (w : Fin cfg0.W) : (dats m 0 c).share w = fullShare := w.elim0

set_option maxRecDepth 20000 in
/-- From any memory with zero counters, whatever the float values are: every weakly fair execution of the launch ends, with
    each device's arguments unchanged, its result the sums lane by lane, and every semaphore at zero. -/
theorem run_main : θ_run (defs (F := F)) (onTc (τ := τ) (main (F := F))) ⟨m, fun _ => 0, ρ⟩
    (fun r => (∀ c : Dev nD, Ends m c r.2.mem) ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := fun c => (body_obligation m c).loose) (hne := fun w => w.elim0) (harr := arr_whole0) (hstage := stage_whole0) (hshare := share_eq m)
    (hdistinct := winFacts0.arr_inj)
    (O₀ := O₀) (howed₀ := fun _ => rfl) (howedN := fun _ => rfl)
    (L := L) (lv := lv) (hL := fun g h => SiteBlocks.hL 64 g h)
    (hwaits := fun c => Pipeline.cellsWaits_intro cfgs (dats m) 0 0 c fun w s t => w.elim0)
    (G := G m) (G' := G' m) (u₀ := u₀) (hu₀ := launch_ghost m) (hglob := glob m)
    (hA := fun _ _ => rfl) (hpf := fun _ k => k.elim0)
    (X := start m) (Y := Kept m) (Z := fun _ => iprop(emp))
    (hX := start_intro m ρ) (hin := phi0_intro m) (hout := phi1_exit m)
    (QY := fun c s => Ends m c s.mem ∧ ∀ sm : SemLoc sig, sm.isScoped .tc = false → s.sem ((c.tc : Thread nD τ), sm) = 0)
    (hY := kept_read m)
    (hQ := fun _ h hs => ⟨fun c => (h c).2.2.1, sem_eq_zero hs fun c => (h c).2.2.2⟩)

end Cert.KernelIdeal.Ring

end
-- ==== Proof.Value.lean ====
module

public import proofs.«01_k».proof.Proof.Run
public import Idealize.ShloMosaic.Lib.Pointwise.Contract
public import Idealize.ShloMosaic.Lib.Pointwise.Reshape
public import Idealize.ShloMosaic.PureOps.Ideal.Laws

@[expose] public section

noncomputable section

namespace Cert.KernelIdeal.Ring

open Idealize.ShloMosaic Idealize.ShloMosaic.TcCoe
open Cert.KernelIdeal.Gen

variable (m : (ℓ : Loc nD τ sig) → Buf (Elt Ideal) ℓ)

/-! ## The sums over the extended reals -/

/-- A device's entries of `x`, -/
def xAt (c : Dev nD) : S2048x2048.Idx → EReal := m ((c : Thread nD τ).loc main_arg0)
/-- of `dy`, -/
def dyAt (c : Dev nD) : S2048x8192.Idx → EReal := m ((c : Thread nD τ).loc main_arg1)

/-- and of the product of its rows: row `r`, column `q`. -/
def ent (c : Dev nD) (r : Fin 2048) (q : Fin 8192) : EReal :=
  ∑ k : Fin 2048, xAt m c (ix2 k r) * dyAt m c (ix2 k q)

/-- A row of a chunk, in the whole. -/
def rowOf (j : Fin 4) (r : Fin 512) : Fin 2048 := ⟨512 * j.val + r.val, by omega⟩

theorem lcol_le (d : Bool) (s : Fin 4) : lcol d s + 1024 ≤ 8192 := by
  cases d <;> simp only [lcol, dn] <;> omega

/-- A column of a lane, in the whole. -/
def colOf (l : Lane) (q : Fin 1024) : Fin 8192 := ⟨lcol l.1 l.2 + q.val, by have := lcol_le l.1 l.2; omega⟩

theorem xc_apply (c : Dev nD) (j : Fin 4) (k : Fin 2048) (r : Fin 512) :
    xc m c j (ix2 k r) = xAt m c (ix2 k (rowOf j r)) := by
  unfold xc
  rw [shapeCast_id]
  refine congrArg (xAt m c) (funext fun a => Fin.ext ?_)
  match a with
  | ⟨0, _⟩ => show 0 + 1 * k.val = k.val; omega
  | ⟨1, _⟩ => show 512 * j.val + 1 * r.val = 512 * j.val + r.val; omega

theorem dys_apply (c : Dev nD) (l : Lane) (h : Fin 2) (k : Fin 2048) (q : Fin 512) :
    dys m c l h (ix2 k q) = dyAt m c (ix2 k (colOf l ⟨512 * h.val + q.val, by omega⟩)) := by
  refine congrArg (dyAt m c) (funext fun a => Fin.ext ?_)
  match a with
  | ⟨0, _⟩ => show 0 + 1 * k.val = k.val; omega
  | ⟨1, _⟩ => show lcol l.1 l.2 + 512 * h.val + 1 * q.val = lcol l.1 l.2 + (512 * h.val + q.val); omega

theorem mm_apply (w : FVec Ideal S2048x512 .bf16) (v : Vec Ideal S2048x512 .f32) (r q : Fin 512) :
    mm w v (ix2 r q) = ∑ k : Fin 2048, (w (ix2 k r) : EReal) * v (ix2 k q) := by
  refine (Ideal.matmul_apply₁_of dot_S2048x512_S2048x512_S512x512_0_0_1_1_n_n (a := 0) rfl (K := 2048) rfl w
    v (constant (F := Ideal) S512x512 .f32 0x00000000#32) (ix2 r q) (fun k => ix2 k r) (fun k => ix2 k q)
    (fun k => ?_) (fun k => ?_)).trans ?_
  rotate_left 2
  · show Ideal.ofBits .f32 0x00000000#32 + _ = _
    rw [Ideal.ofBits_zero_f32, zero_add]
  · funext a
    match a with
    | ⟨0, _⟩ => rfl
    | ⟨1, _⟩ => rfl
  · funext a
    match a with
    | ⟨0, _⟩ => rfl
    | ⟨1, _⟩ => rfl

theorem pr_apply (c : Dev nD) (k : ℕ) (l : Lane) (h : Fin 2) (r q : Fin 512) :
    pr m c k l h (ix2 r q) = ent m c (rowOf (chunk c k l.1) r) (colOf l ⟨512 * h.val + q.val, by omega⟩) := by
  unfold pr ent
  rw [mm_apply]
  exact Finset.sum_congr rfl fun i _ => by rw [xc_apply, dys_apply]

theorem own_apply (c : Dev nD) (k : ℕ) (l : Lane) (r : Fin 512) (q : Fin 1024) :
    own m c k l (ix2 r q) = ent m c (rowOf (chunk c k l.1) r) (colOf l q) := by
  have e : halfIdx (ix2 r q) = ix2 r ⟨q.val % 512, Nat.mod_lt _ (by decide)⟩ := by
    funext a
    match a with
    | ⟨0, _⟩ => rfl
    | ⟨1, _⟩ => rfl
  have hq := q.isLt
  unfold own halves
  split
  · rename_i h
    have h : q.val < 512 := h
    rw [e, pr_apply]
    refine congrArg (fun z => ent m c _ (colOf l z)) (Fin.ext ?_)
    show 512 * 0 + q.val % 512 = q.val
    omega
  · rename_i h
    have h : ¬ q.val < 512 := h
    rw [e, pr_apply]
    refine congrArg (fun z => ent m c _ (colOf l z)) (Fin.ext ?_)
    show 512 * 1 + q.val % 512 = q.val
    omega

theorem part_zero (c : Dev nD) (l : Lane) (i : S512x1024.Idx) : (part m 0 c l i : EReal) = own m c 0 l i := rfl
theorem part_succ (k : ℕ) (c : Dev nD) (l : Lane) (i : S512x1024.Idx) :
    (part m (k + 1) c l i : EReal) = (part m k (prv l.1 c) l i : EReal) + own m c (k + 1) l i := rfl
theorem total_at (c : Dev nD) (l : Lane) (i : S512x1024.Idx) :
    (total m c l i : EReal) = (part m 2 (prv l.1 c) l i : EReal) + own m c 3 l i := rfl

theorem chunk_back (c : Dev nD) (d : Bool) :
    chunk (prv d (prv d (prv d c))) 0 d = c ∧ chunk (prv d (prv d c)) 1 d = c ∧ chunk (prv d c) 2 d = c ∧ chunk c 3 d = c := by
  revert c d; decide

/-- Once around the ring is every device. -/
theorem sum_ring (f : Dev nD → EReal) (d : Bool) (c : Dev nD) :
    f (prv d (prv d (prv d c))) + f (prv d (prv d c)) + f (prv d c) + f c = ∑ x : Dev nD, f x := by
  have h : (Finset.univ : Finset (Dev nD)) = {prv d (prv d (prv d c)), prv d (prv d c), prv d c, c} := by
    revert c d; decide
  have h1 : prv d (prv d (prv d c)) ∉ ({prv d (prv d c), prv d c, c} : Finset (Dev nD)) ∧
      prv d (prv d c) ∉ ({prv d c, c} : Finset (Dev nD)) ∧ prv d c ∉ ({c} : Finset (Dev nD)) := by
    revert c d; decide
  rw [h, Finset.sum_insert h1.1, Finset.sum_insert h1.2.1, Finset.sum_insert h1.2.2, Finset.sum_singleton, add_assoc, add_assoc]

/-- A device writes out the sums over all devices for its chunk of rows. -/
theorem total_apply (c : Dev nD) (l : Lane) (r : Fin 512) (q : Fin 1024) :
    total m c l (ix2 r q) = ∑ x : Dev nD, ent m x (rowOf c r) (colOf l q) := by
  obtain ⟨h0, h1, h2, h3⟩ := chunk_back c l.1
  rw [← sum_ring (fun x => ent m x (rowOf c r) (colOf l q)) l.1 c]
  refine (total_at m c l _).trans ?_
  rw [part_succ, part_succ, part_zero, own_apply, own_apply, own_apply, own_apply, h0, h1, h2, h3]

end Cert.KernelIdeal.Ring

end
-- ==== Proof.Ref.lean ====
module

public import proofs.«01_k».proof.Proof.Value
public import proofs.«01_k».proof.Proof.Gen.ReferenceIdeal
public import Idealize.ShloMosaic.Lib.Layout
public import Mathlib.Algebra.BigOperators.Fin

@[expose] public section

noncomputable section

namespace Cert.KernelIdeal.Ring

open Idealize.ShloMosaic Idealize.ShloMosaic.TcCoe
open Cert.KernelIdeal.Gen

/-! ## The one product, and the blocks of it -/

/-- The whole `x` and the whole `dy`. -/
abbrev WholeX : Type := Cert.ReferenceIdeal.S8192x2048.Idx → EReal
abbrev WholeDy : Type := Cert.ReferenceIdeal.S8192x8192.Idx → EReal

/-- What the reference returns. -/
def whole (X : WholeX) (Y : WholeDy) : Cert.ReferenceIdeal.S2048x8192.Idx → EReal :=
  Host.dotGeneral (F := Ideal) (φ₁ := .f32) (φ₂ := .f32) Cert.ReferenceIdeal.dot_S2048x8192_S8192x8192_S2048x8192_1_0_0_1_n_n none
    (transpose Cert.ReferenceIdeal.S2048x8192 [1, 0] X Cert.ReferenceIdeal.Facts₀.transposes_S8192x2048_S2048x8192_1_0) Y

theorem whole_apply (X : WholeX) (Y : WholeDy) (r : Fin 2048) (q : Fin 8192) :
    whole X Y (ix2 r q) = ∑ k : Fin 8192, X (ix2 k r) * Y (ix2 k q) := by
  refine (Ideal.matmul_apply₁_of Cert.ReferenceIdeal.dot_S2048x8192_S8192x8192_S2048x8192_1_0_0_1_n_n (a := 1) rfl (K := 8192) rfl
    (transpose Cert.ReferenceIdeal.S2048x8192 [1, 0] X Cert.ReferenceIdeal.Facts₀.transposes_S8192x2048_S2048x8192_1_0) Y (fun _ => 0)
    (ix2 r q) (fun k => ix2 r k) (fun k => ix2 k q) (fun k => ?_) (fun k => ?_)).trans ?_
  · funext a
    match a with
    | ⟨0, _⟩ => rfl
    | ⟨1, _⟩ => rfl
  · funext a
    match a with
    | ⟨0, _⟩ => rfl
    | ⟨1, _⟩ => rfl
  · rw [zero_add]
    refine Finset.sum_congr rfl fun k _ => congrArg (fun z => X z * Y (ix2 k q)) (funext fun a => ?_)
    match a with
    | ⟨0, _⟩ => rfl
    | ⟨1, _⟩ => rfl

/-- Row `k` of device `d`'s rows. -/
def deep (d : Fin 4) (k : Fin 2048) : Fin 8192 := ⟨d.val * 2048 + k.val, by omega⟩

/-- A sum over all rows is the sums over each device's rows. -/
theorem sum_deep (f : Fin 8192 → EReal) : ∑ k : Fin 8192, f k = ∑ d : Fin 4, ∑ k : Fin 2048, f (deep d k) := by
  rw [← Fintype.sum_prod_type' fun (d : Fin 4) (k : Fin 2048) => f (deep d k)]
  refine (Fintype.sum_equiv (finProdFinEquiv (m := 4) (n := 2048)) _ _ fun p => congrArg f (Fin.ext ?_)).symm
  show p.1.val * 2048 + p.2.val = p.2.val + 2048 * p.1.val
  omega

variable (m : (ℓ : Loc nD τ sig) → Buf (Elt Ideal) ℓ) (X : WholeX) (Y : WholeDy)

/-- Every device's arguments are its rows of the whole ones. -/
def Dealt : Prop := ∀ c : Dev nD,
  m ((c : Thread nD τ).loc main_arg0) = Layout.block ⟨2, ![2048, 2048]⟩ ⟨2, ![8192, 2048]⟩ 0 4 c X
    ∧ m ((c : Thread nD τ).loc main_arg1) = Layout.block ⟨2, ![2048, 8192]⟩ ⟨2, ![8192, 8192]⟩ 0 4 c Y

variable {m X Y}

theorem ent_dealt (h : Dealt m X Y) (c : Dev nD) (r : Fin 2048) (q : Fin 8192) :
    ent m c r q = ∑ k : Fin 2048, X (ix2 (deep c k) r) * Y (ix2 (deep c k) q) := by
  unfold ent xAt dyAt
  rw [(h c).1, (h c).2]
  refine Finset.sum_congr rfl fun k _ => ?_
  rw [Layout.block_apply, Layout.block_apply]
  refine congrArg₂ (fun a b => X a * Y b) (funext fun a => ?_) (funext fun a => ?_)
  · match a with
    | ⟨0, _⟩ => rfl
    | ⟨1, _⟩ => rfl
  · match a with
    | ⟨0, _⟩ => rfl
    | ⟨1, _⟩ => rfl

/-- A lane a device writes out is the device's block of the one product, at the lane's columns. -/
theorem total_dealt (h : Dealt m X Y) (c : Dev nD) (l : Lane) (r : Fin 512) (q : Fin 1024) :
    total m c l (ix2 r q) = whole X Y (ix2 (rowOf c r) (colOf l q)) := by
  rw [total_apply, whole_apply, sum_deep]
  exact Finset.sum_congr rfl fun x _ => ent_dealt h x _ _

/-- Lanes that hold their sums make the block. -/
theorem block_of_lanes (h : Dealt m X Y) (c : Dev nD) (g : Buf (Elt Ideal) ((c : Thread nD τ).loc main_v1))
    (hg : ∀ l : Lane, (outM l.1 l.2).view.read (Elt Ideal) g = total m c l) :
    g = Layout.block ⟨2, ![512, 8192]⟩ ⟨2, ![2048, 8192]⟩ 0 4 c (whole X Y) := by
  funext i
  have h0 : (i 0).val < 512 := (i 0).isLt
  have h1 : (i 1).val < 8192 := (i 1).isLt
  obtain ⟨ha, hb⟩ := laneOf_le (i 1).val h1
  generalize laneOf (i 1).val h1 = l at ha hb
  have hr := congrFun (hg l) (ix2 ⟨(i 0).val, h0⟩ ⟨(i 1).val - lcol l.1 l.2, by omega⟩)
  rw [total_dealt h] at hr
  refine Eq.trans (congrArg g (funext fun a => Fin.ext ?_)) (hr.trans (congrArg (whole X Y) (funext fun a => Fin.ext ?_)))
  · match a with
    | ⟨0, _⟩ => show (i 0).val = 0 + 1 * (i 0).val; omega
    | ⟨1, _⟩ => show (i 1).val = lcol l.1 l.2 + 1 * ((i 1).val - lcol l.1 l.2); omega
  · match a with
    | ⟨0, _⟩ => show 512 * c.val + (i 0).val = c.val * 512 + (i 0).val; omega
    | ⟨1, _⟩ => show lcol l.1 l.2 + ((i 1).val - lcol l.1 l.2) = (i 1).val; omega

end Cert.KernelIdeal.Ring

end
-- ==== Proof.lean ====
module

public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Run
public import proofs.«01_k».proof.Proof.Ref
public import Idealize.ShloMosaic.Adequacy
public import Idealize.ShloMosaic.Init

@[expose] public section

noncomputable section

namespace Cert.Proof

open Idealize.ShloMosaic Idealize.SL.Sem Cert.Kernel

/-- The kernel runs and comes to rest: the run over any float values, at the bits. -/
theorem frame_kernel : Cert.quiescent_Kernel := fun m ρ _ =>
  (θ_run Cert.KernelIdeal.defs _ _).mono (fun _ h => ⟨fun c => (h.1 c).1, h.2⟩)
    (Cert.KernelIdeal.Ring.run_main (F := Bits) m ρ)

/-- So does the kernel over the extended reals. -/
theorem frame_ideal : Cert.quiescent_KernelIdeal := fun m ρ _ =>
  (θ_run Cert.KernelIdeal.defs _ _).mono (fun _ h => ⟨fun c => (h.1 c).1, h.2⟩)
    (Cert.KernelIdeal.Ring.run_main (F := Ideal) m ρ)

/-- So does the reference. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The kernel's text is the idealized kernel's. -/
theorem preserves : Cert.preserves_Kernel_KernelIdeal := trivial

/-- Every device ends with its block of the reference's result. -/
theorem algebraic : Cert.algebraic_KernelIdeal_ReferenceIdeal := by
  intro m ρ m' ρ' _ hm
  refine ⟨Cert.KernelIdeal.Ring.whole _ _,
    (θ_run Cert.KernelIdeal.defs _ _).mono (fun r h c => ⟨?_, (h.1 c).1.1, (h.1 c).1.2⟩) (Cert.KernelIdeal.Ring.run_main (F := Ideal) m ρ),
    (θ_run Cert.ReferenceIdeal.defs _ _).mono (fun r h => h 0) (Cert.ReferenceIdeal.Value.run (F := Ideal) m' ρ')⟩
  exact Cert.KernelIdeal.Ring.block_of_lanes (m := m) hm c _ (h.1 c).2

theorem claim : Cert.Claim := ⟨Cert.Kernel.Gen.facts, Cert.KernelIdeal.Gen.facts, Cert.ReferenceIdeal.Gen.facts,
  frame_kernel, frame_ideal, frame_reference, preserves, algebraic⟩

end Cert.Proof

end
